-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x784 : Shape := ⟨2, ![16384, 784]⟩
abbrev S16384x10 : Shape := ⟨2, ![16384, 10]⟩
abbrev S784x4 : Shape := ⟨2, ![784, 4]⟩
abbrev S4 : Shape := ⟨1, ![4]⟩
abbrev S4x784x128 : Shape := ⟨3, ![4, 784, 128]⟩
abbrev S4x128 : Shape := ⟨2, ![4, 128]⟩
abbrev S128x10 : Shape := ⟨2, ![128, 10]⟩
abbrev S10 : Shape := ⟨1, ![10]⟩
abbrev S10x4 : Shape := ⟨2, ![10, 4]⟩
abbrev S4x10x128 : Shape := ⟨3, ![4, 10, 128]⟩
abbrev S784x4x128 : Shape := ⟨3, ![784, 4, 128]⟩
abbrev S784x512 : Shape := ⟨2, ![784, 512]⟩
abbrev S784x516 : Shape := ⟨2, ![784, 516]⟩
abbrev S10x4x128 : Shape := ⟨3, ![10, 4, 128]⟩
abbrev S10x512 : Shape := ⟨2, ![10, 512]⟩
abbrev S10x516 : Shape := ⟨2, ![10, 516]⟩
abbrev S1x4 : Shape := ⟨2, ![1, 4]⟩
abbrev S1x512 : Shape := ⟨2, ![1, 512]⟩
abbrev S1x10 : Shape := ⟨2, ![1, 10]⟩
abbrev S4x4 : Shape := ⟨2, ![4, 4]⟩
abbrev S_ : Shape := ⟨0, ![]⟩
abbrev S4x4x128 : Shape := ⟨3, ![4, 4, 128]⟩
abbrev S4x512 : Shape := ⟨2, ![4, 512]⟩
abbrev S16384x128 : Shape := ⟨2, ![16384, 128]⟩
abbrev S1024x784 : Shape := ⟨2, ![1024, 784]⟩
abbrev S1024x10 : Shape := ⟨2, ![1024, 10]⟩
abbrev S1024x128 : Shape := ⟨2, ![1024, 128]⟩
abbrev S2x1024x516 : Shape := ⟨3, ![2, 1024, 516]⟩
abbrev S1024x516 : Shape := ⟨2, ![1024, 516]⟩
abbrev S1x1024x516 : Shape := ⟨3, ![1, 1024, 516]⟩
abbrev S1024x4 : Shape := ⟨2, ![1024, 4]⟩
abbrev S1024 : Shape := ⟨1, ![1024]⟩
abbrev S1024x1 : Shape := ⟨2, ![1024, 1]⟩
abbrev S1024x512 : Shape := ⟨2, ![1024, 512]⟩

abbrev nBuf : Space → Nat
  | .hbm => 41
  | .vmem => 25
  | .smem => 0
  | _ => 0

abbrev bufTy : (tb : Table) → Fin (tcTables nBuf tb) → BufTy
  | .hbm, ⟨0, _⟩ => ⟨S16384x784, .f32⟩
  | .hbm, ⟨1, _⟩ => ⟨S16384x10, .f32⟩
  | .hbm, ⟨2, _⟩ => ⟨S784x4, .f32⟩
  | .hbm, ⟨3, _⟩ => ⟨S4, .f32⟩
  | .hbm, ⟨4, _⟩ => ⟨S4x784x128, .f32⟩
  | .hbm, ⟨5, _⟩ => ⟨S4x128, .f32⟩
  | .hbm, ⟨6, _⟩ => ⟨S128x10, .f32⟩
  | .hbm, ⟨7, _⟩ => ⟨S10, .f32⟩
  | .hbm, ⟨8, _⟩ => ⟨S10x4, .f32⟩
  | .hbm, ⟨9, _⟩ => ⟨S4, .f32⟩
  | .hbm, ⟨10, _⟩ => ⟨S4x10x128, .f32⟩
  | .hbm, ⟨11, _⟩ => ⟨S4x128, .f32⟩
  | .hbm, ⟨12, _⟩ => ⟨S128x10, .f32⟩
  | .hbm, ⟨13, _⟩ => ⟨S10, .f32⟩
  | .hbm, ⟨14, _⟩ => ⟨S784x4x128, .f32⟩
  | .hbm, ⟨15, _⟩ => ⟨S784x512, .f32⟩
  | .hbm, ⟨16, _⟩ => ⟨S784x516, .f32⟩
  | .hbm, ⟨17, _⟩ => ⟨S10x4x128, .f32⟩
  | .hbm, ⟨18, _⟩ => ⟨S10x512, .f32⟩
  | .hbm, ⟨19, _⟩ => ⟨S10x516, .f32⟩
  | .hbm, ⟨20, _⟩ => ⟨S1x4, .f32⟩
  | .hbm, ⟨21, _⟩ => ⟨S1x4, .f32⟩
  | .hbm, ⟨22, _⟩ => ⟨S1x512, .f32⟩
  | .hbm, ⟨23, _⟩ => ⟨S1x512, .f32⟩
  | .hbm, ⟨24, _⟩ => ⟨S1x10, .f32⟩
  | .hbm, ⟨25, _⟩ => ⟨S1x10, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S4x4x128, .f32⟩
  | .hbm, ⟨34, _⟩ => ⟨S4x512, .f32⟩
  | .hbm, ⟨35, _⟩ => ⟨S784x516, .bf16⟩
  | .hbm, ⟨36, _⟩ => ⟨S10x516, .bf16⟩
  | .hbm, ⟨37, _⟩ => ⟨S16384x10, .f32⟩
  | .hbm, ⟨38, _⟩ => ⟨S16384x10, .f32⟩
  | .hbm, ⟨39, _⟩ => ⟨S16384x128, .f32⟩
  | .hbm, ⟨40, _⟩ => ⟨S16384x128, .f32⟩
  | .local _ .vmem, ⟨0, _⟩ => ⟨S1024x784, .f32⟩
  | .local _ .vmem, ⟨1, _⟩ => ⟨S1024x784, .f32⟩
  | .local _ .vmem, ⟨2, _⟩ => ⟨S1024x10, .f32⟩
  | .local _ .vmem, ⟨3, _⟩ => ⟨S1024x10, .f32⟩
  | .local _ .vmem, ⟨4, _⟩ => ⟨S784x516, .bf16⟩
  | .local _ .vmem, ⟨5, _⟩ => ⟨S1x4, .f32⟩
  | .local _ .vmem, ⟨6, _⟩ => ⟨S1x512, .f32⟩
  | .local _ .vmem, ⟨7, _⟩ => ⟨S4x512, .f32⟩
  | .local _ .vmem, ⟨8, _⟩ => ⟨S128x10, .f32⟩
  | .local _ .vmem, ⟨9, _⟩ => ⟨S1x10, .f32⟩
  | .local _ .vmem, ⟨10, _⟩ => ⟨S10x516, .bf16⟩
  | .local _ .vmem, ⟨11, _⟩ => ⟨S1x4, .f32⟩
  | .local _ .vmem, ⟨12, _⟩ => ⟨S1x512, .f32⟩
  | .local _ .vmem, ⟨13, _⟩ => ⟨S128x10, .f32⟩
  | .local _ .vmem, ⟨14, _⟩ => ⟨S1x10, .f32⟩
  | .local _ .vmem, ⟨15, _⟩ => ⟨S1024x10, .f32⟩
  | .local _ .vmem, ⟨16, _⟩ => ⟨S1024x10, .f32⟩
  | .local _ .vmem, ⟨17, _⟩ => ⟨S1024x10, .f32⟩
  | .local _ .vmem, ⟨18, _⟩ => ⟨S1024x10, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S2x1024x516, .f32⟩
  | .local _ .vmem, ⟨24, _⟩ => ⟨S2x1024x516, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c2_i32_1 : BitVec 32 := 2#32
  let v4 : BitVec 32 := Scalar.remsi arg0 c2_i32_1
  let c1_i32 : BitVec 32 := 1#32
  let v5 : BitVec 1 := Scalar.cmpi .eq v4 c1_i32
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x516 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x516 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x10 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x784 : Shape := ⟨2, ![16384, 784]⟩
abbrev S16384x10 : Shape := ⟨2, ![16384, 10]⟩
abbrev S784x4 : Shape := ⟨2, ![784, 4]⟩
abbrev S4 : Shape := ⟨1, ![4]⟩
abbrev S4x784x128 : Shape := ⟨3, ![4, 784, 128]⟩
abbrev S4x128 : Shape := ⟨2, ![4, 128]⟩
abbrev S128x10 : Shape := ⟨2, ![128, 10]⟩
abbrev S10 : Shape := ⟨1, ![10]⟩
abbrev S10x4 : Shape := ⟨2, ![10, 4]⟩
abbrev S4x10x128 : Shape := ⟨3, ![4, 10, 128]⟩
abbrev S16384x4 : Shape := ⟨2, ![16384, 4]⟩
abbrev S1x4 : Shape := ⟨2, ![1, 4]⟩
abbrev S_ : Shape := ⟨0, ![]⟩
abbrev S16384 : Shape := ⟨1, ![16384]⟩
abbrev S16384x1 : Shape := ⟨2, ![16384, 1]⟩
abbrev S16384x4x128 : Shape := ⟨3, ![16384, 4, 128]⟩
abbrev S1x4x128 : Shape := ⟨3, ![1, 4, 128]⟩
abbrev S16384x128 : Shape := ⟨2, ![16384, 128]⟩
abbrev S1x10 : Shape := ⟨2, ![1, 10]⟩

abbrev nBuf : Space → Nat
  | .hbm => 68
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S16384x10, .f32⟩
  | .hbm, ⟨2, _⟩ => ⟨S784x4, .f32⟩
  | .hbm, ⟨3, _⟩ => ⟨S4, .f32⟩
  | .hbm, ⟨4, _⟩ => ⟨S4x784x128, .f32⟩
  | .hbm, ⟨5, _⟩ => ⟨S4x128, .f32⟩
  | .hbm, ⟨6, _⟩ => ⟨S128x10, .f32⟩
  | .hbm, ⟨7, _⟩ => ⟨S10, .f32⟩
  | .hbm, ⟨8, _⟩ => ⟨S10x4, .f32⟩
  | .hbm, ⟨9, _⟩ => ⟨S4, .f32⟩
  | .hbm, ⟨10, _⟩ => ⟨S4x10x128, .f32⟩
  | .hbm, ⟨11, _⟩ => ⟨S4x128, .f32⟩
  | .hbm, ⟨12, _⟩ => ⟨S128x10, .f32⟩
  | .hbm, ⟨13, _⟩ => ⟨S10, .f32⟩
  | .hbm, ⟨14, _⟩ => ⟨S16384x4, .f32⟩
  | .hbm, ⟨15, _⟩ => ⟨S1x4, .f32⟩
  | .hbm, ⟨16, _⟩ => ⟨S16384x4, .f32⟩
  | .hbm, ⟨17, _⟩ => ⟨S16384x4, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1, .f32⟩
  | .hbm, ⟨24, _⟩ => ⟨S16384x4, .f32⟩
  | .hbm, ⟨25, _⟩ => ⟨S16384x4, .f32⟩
  | .hbm, ⟨26, _⟩ => ⟨S16384x4, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x4, .f32⟩
  | .hbm, ⟨31, _⟩ => ⟨S16384x4, .f32⟩
  | .hbm, ⟨32, _⟩ => ⟨S16384x4x128, .f32⟩
  | .hbm, ⟨33, _⟩ => ⟨S1x4x128, .f32⟩
  | .hbm, ⟨34, _⟩ => ⟨S16384x4x128, .f32⟩
  | .hbm, ⟨35, _⟩ => ⟨S16384x4x128, .f32⟩
  | .hbm, ⟨36, _⟩ => ⟨S16384x128, .f32⟩
  | .hbm, ⟨37, _⟩ => ⟨S16384x10, .f32⟩
  | .hbm, ⟨38, _⟩ => ⟨S1x10, .f32⟩
  | .hbm, ⟨39, _⟩ => ⟨S16384x10, .f32⟩
  | .hbm, ⟨40, _⟩ => ⟨S16384x10, .f32⟩
  | .hbm, ⟨41, _⟩ => ⟨S16384x4, .f32⟩
  | .hbm, ⟨42, _⟩ => ⟨S1x4, .f32⟩
  | .hbm, ⟨43, _⟩ => ⟨S16384x4, .f32⟩
  | .hbm, ⟨44, _⟩ => ⟨S16384x4, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384x1, .f32⟩
  | .hbm, ⟨51, _⟩ => ⟨S16384x4, .f32⟩
  | .hbm, ⟨52, _⟩ => ⟨S16384x4, .f32⟩
  | .hbm, ⟨53, _⟩ => ⟨S16384x4, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x4, .f32⟩
  | .hbm, ⟨58, _⟩ => ⟨S16384x4, .f32⟩
  | .hbm, ⟨59, _⟩ => ⟨S16384x4x128, .f32⟩
  | .hbm, ⟨60, _⟩ => ⟨S1x4x128, .f32⟩
  | .hbm, ⟨61, _⟩ => ⟨S16384x4x128, .f32⟩
  | .hbm, ⟨62, _⟩ => ⟨S16384x4x128, .f32⟩
  | .hbm, ⟨63, _⟩ => ⟨S16384x128, .f32⟩
  | .hbm, ⟨64, _⟩ => ⟨S16384x10, .f32⟩
  | .hbm, ⟨65, _⟩ => ⟨S1x10, .f32⟩
  | .hbm, ⟨66, _⟩ => ⟨S16384x10, .f32⟩
  | .hbm, ⟨67, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Setup.lean ====
/- What the two cases of the kernel's body are stated over: its branch conditions at the grid's points, the buffers the body is called on,
   the half of a scratch buffer that a point writes or reads, and the four blocks the gating stage stores. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.Pointwise
public import Idealize.ShloMosaic.Lib.VecWindow
public import Idealize.ShloMosaic.Lib.Pipeline.ValueKit.Basic

@[expose] public section

set_option maxRecDepth 16384

noncomputable section

namespace Cert.KernelIdeal.Tower

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The first branch of the body: taken at the even points. -/
abbrev evenAt (i : grid0.Coords) : Prop := k0_cond1 i = 1#1
/-- The second branch of the body: taken at the odd points. -/
abbrev oddAt (i : grid0.Coords) : Prop := k0_cond2 i = 1#1
/-- The first branch is taken exactly at the even points. -/
theorem evenAt_iff : ∀ t : Fin cfg0.N, evenAt (grid0.coords t) ↔ t.val % 2 = 0 :=
  (by decide +kernel : ∀ t : Fin grid0.N, evenAt (grid0.coords t) ↔ t.val % 2 = 0)
/-- The second branch is taken exactly at the odd points. -/
theorem oddAt_iff : ∀ t : Fin cfg0.N, oddAt (grid0.coords t) ↔ t.val % 2 = 1 :=
  (by decide +kernel : ∀ t : Fin grid0.N, oddAt (grid0.coords t) ↔ t.val % 2 = 1)

/-- No window is idle anywhere. -/
theorem live : ∀ (w : Fin cfg0.W) (t : Fin cfg0.N), cfg0.idle w (grid0.coords t) = false :=
  (by decide +kernel : ∀ (w : Fin cfg0.W) (t : Fin grid0.N), cfg0.idle w (grid0.coords t) = false)

/-- The staging buffer of window 0 at point `t`. -/
abbrev stg0 (t : Fin cfg0.N) : Memref sig .tc .vmem S1024x784 .f32 := win0_0.stage (cfg0.slots t 0)
/-- The staging buffer of window 1 at point `t`. -/
abbrev stg1 (t : Fin cfg0.N) : Memref sig .tc .vmem S1024x10 .f32 := win0_1.stage (cfg0.slots t 1)
/-- The staging buffer of window 2 at point `t`. -/
abbrev stg2 (t : Fin cfg0.N) : Memref sig .tc .vmem S784x516 .bf16 := win0_2.stage (cfg0.slots t 2)
/-- The staging buffer of window 3 at point `t`. -/
abbrev stg3 (t : Fin cfg0.N) : Memref sig .tc .vmem S1x4 .f32 := win0_3.stage (cfg0.slots t 3)
/-- The staging buffer of window 4 at point `t`. -/
abbrev stg4 (t : Fin cfg0.N) : Memref sig .tc .vmem S1x512 .f32 := win0_4.stage (cfg0.slots t 4)
/-- The staging buffer of window 5 at point `t`. -/
abbrev stg5 (t : Fin cfg0.N) : Memref sig .tc .vmem S4x512 .f32 := win0_5.stage (cfg0.slots t 5)
/-- The staging buffer of window 6 at point `t`. -/
abbrev stg6 (t : Fin cfg0.N) : Memref sig .tc .vmem S128x10 .f32 := win0_6.stage (cfg0.slots t 6)
/-- The staging buffer of window 7 at point `t`. -/
abbrev stg7 (t : Fin cfg0.N) : Memref sig .tc .vmem S1x10 .f32 := win0_7.stage (cfg0.slots t 7)
/-- The staging buffer of window 8 at point `t`. -/
abbrev stg8 (t : Fin cfg0.N) : Memref sig .tc .vmem S10x516 .bf16 := win0_8.stage (cfg0.slots t 8)
/-- The staging buffer of window 9 at point `t`. -/
abbrev stg9 (t : Fin cfg0.N) : Memref sig .tc .vmem S1x4 .f32 := win0_9.stage (cfg0.slots t 9)
/-- The staging buffer of window 10 at point `t`. -/
abbrev stg10 (t : Fin cfg0.N) : Memref sig .tc .vmem S1x512 .f32 := win0_10.stage (cfg0.slots t 10)
/-- The staging buffer of window 11 at point `t`. -/
abbrev stg11 (t : Fin cfg0.N) : Memref sig .tc .vmem S128x10 .f32 := win0_11.stage (cfg0.slots t 11)
/-- The staging buffer of window 12 at point `t`. -/
abbrev stg12 (t : Fin cfg0.N) : Memref sig .tc .vmem S1x10 .f32 := win0_12.stage (cfg0.slots t 12)
/-- The staging buffer of window 13 at point `t`. -/
abbrev stg13 (t : Fin cfg0.N) : Memref sig .tc .vmem S1024x10 .f32 := win0_13.stage (cfg0.slots t 13)
/-- The staging buffer of window 14 at point `t`. -/
abbrev stg14 (t : Fin cfg0.N) : Memref sig .tc .vmem S1024x10 .f32 := win0_14.stage (cfg0.slots t 14)
/-- The staging buffer of window 15 at point `t`. -/
abbrev stg15 (t : Fin cfg0.N) : Memref sig .tc .vmem S1024x128 .f32 := win0_15.stage (cfg0.slots t 15)
/-- The staging buffer of window 16 at point `t`. -/
abbrev stg16 (t : Fin cfg0.N) : Memref sig .tc .vmem S1024x128 .f32 := win0_16.stage (cfg0.slots t 16)

/-- The scratch buffer of the image tower's products. -/
abbrev scrI : Memref sig .tc .vmem S2x1024x516 .f32 := Memref.whole cc0_scratch0
/-- The scratch buffer of the text tower's products. -/
abbrev scrT : Memref sig .tc .vmem S2x1024x516 .f32 := Memref.whole cc0_scratch1

/-- What the region hands the body besides the windows: the two scratch buffers at some contents, and the generator's register. -/
theorem regionInv_eq (c : Dev nD) :
    (Pipeline.ΦA spec0 c : sProp 𝕄)
      = iprop(iprop((∃ d, owns (c : Thread nD τ) scrI fullShare d) ∗ (∃ d, owns (c : Thread nD τ) scrT fullShare d)) ∗ (∃ r, prngReg c r)) := by
  unfold Pipeline.ΦA; rw [scopedRest0_eq]; simp only [scrI, scrT, owns_whole]; try rfl

/-- Half `b` of a scratch buffer. -/
def half (b : Fin 2) (X : Vec F S2x1024x516 .f32) : Vec F S1x1024x516 .f32 := fun y => X (ix3 b (y 1) (y 2))

/-- The image tower's mixed vectors, from the products `s`, the gates' bias, the experts' bias and the expander. -/
def imgVec (s : Vec F S1x1024x516 .f32) (gb : Vec F S1x4 .f32) (eb : Vec F S1x512 .f32) (S : Vec F S4x512 .f32) : FVec F S1024x128 .f32 :=
  k0_pay13 (k0_pay7 S) (k0_pay8 s) (k0_pay9 eb) (k0_pay11 s) (k0_pay12 gb)
/-- The image tower's class scores, from the same and the classifier's weight and bias. -/
def imgCls (s : Vec F S1x1024x516 .f32) (gb : Vec F S1x4 .f32) (eb : Vec F S1x512 .f32) (S : Vec F S4x512 .f32) (cw : Vec F S128x10 .f32)
    (cb : Vec F S1x10 .f32) : FVec F S1024x10 .f32 :=
  k0_pay14 (k0_pay7 S) (k0_pay8 s) (k0_pay9 eb) cw (k0_pay10 cb) (k0_pay11 s) (k0_pay12 gb)
/-- The text tower's mixed vectors. -/
def txtVec (s : Vec F S1x1024x516 .f32) (gb : Vec F S1x4 .f32) (eb : Vec F S1x512 .f32) (S : Vec F S4x512 .f32) : FVec F S1024x128 .f32 :=
  k0_pay1 (k0_pay7 S) (k0_pay15 s) (k0_pay16 eb) (k0_pay18 s gb)
/-- The text tower's class scores. -/
def txtCls (s : Vec F S1x1024x516 .f32) (gb : Vec F S1x4 .f32) (eb : Vec F S1x512 .f32) (S : Vec F S4x512 .f32) (cw : Vec F S128x10 .f32)
    (cb : Vec F S1x10 .f32) : FVec F S1024x10 .f32 :=
  k0_pay2 (k0_pay7 S) (k0_pay15 s) (k0_pay16 eb) cw (k0_pay17 cb) (k0_pay18 s gb)

/-- A load of a whole buffer reads what the buffer holds. -/
theorem load_all {s : Shape} {e : EltTy} {M : Memref sig .tc .vmem s e} (h : M.IsWhole) {off : Fin s.rank → ℕ}
    (inb : ∀ a, off a + s.size a ≤ s.size a) (X : s.Idx → Elt F e) (h0 : ∀ a, off a = 0) :
    View.readAt (Elt F) M.view (Rect.unit off (no_index s.size) inb).toLoadRect (h.unread X) = X := by
  rw [View.readAt_eq_ld, h.read_unread]
  exact View.ld_unit_lit inb X h0

/-- A load of half 0 of a scratch buffer reads that half. -/
theorem load_half0 {M : Memref sig .tc .vmem S2x1024x516 .f32} (h : M.IsWhole)
    (inb : ∀ a, (![0, 0, 0] : Fin 3 → ℕ) a + S1x1024x516.size a ≤ S2x1024x516.size a) (X : Vec F S2x1024x516 .f32) :
    View.readAt (Elt F) M.view (Rect.unit (s := S2x1024x516) ![0, 0, 0] (no_index S1x1024x516.size) inb).toLoadRect (h.unread X) = half 0 X := by
  rw [View.readAt_eq_ld, h.read_unread]
  funext y
  refine congrArg X (funext fun a => ?_)
  fin_cases a
  · exact Fin.ext (by have := (y 0).isLt; simp [LoadRect.idx, Rect.toLoadRect, Rect.unit]; have h1 : (y 0).val < 1 := this; omega)
  · exact Fin.ext (by simp [LoadRect.idx, Rect.toLoadRect, Rect.unit])
  · exact Fin.ext (by simp [LoadRect.idx, Rect.toLoadRect, Rect.unit])

/-- A load of half 1 of a scratch buffer reads that half. -/
theorem load_half1 {M : Memref sig .tc .vmem S2x1024x516 .f32} (h : M.IsWhole)
    (inb : ∀ a, (![1, 0, 0] : Fin 3 → ℕ) a + S1x1024x516.size a ≤ S2x1024x516.size a) (X : Vec F S2x1024x516 .f32) :
    View.readAt (Elt F) M.view (Rect.unit (s := S2x1024x516) ![1, 0, 0] (no_index S1x1024x516.size) inb).toLoadRect (h.unread X) = half 1 X := by
  rw [View.readAt_eq_ld, h.read_unread]
  funext y
  refine congrArg X (funext fun a => ?_)
  fin_cases a
  · exact Fin.ext (by have := (y 0).isLt; simp [LoadRect.idx, Rect.toLoadRect, Rect.unit]; have h1 : (y 0).val < 1 := this; omega)
  · exact Fin.ext (by simp [LoadRect.idx, Rect.toLoadRect, Rect.unit])
  · exact Fin.ext (by simp [LoadRect.idx, Rect.toLoadRect, Rect.unit])

/-- After a store into half 0 of a scratch buffer that half holds the stored product. -/
theorem half0_stored {M : Memref sig .tc .vmem S2x1024x516 .f32} (f : M.view.ty.Contents (Elt F))
    (inb : ∀ a, (![0, 0, 0] : Fin 3 → ℕ) a + S1x1024x516.size a ≤ S2x1024x516.size a) (p : Vec F S1x1024x516 .f32) :
    half 0 (View.read (Elt F) M.view (M.view.writes (Elt F) f [⟨Rect.unit ![0, 0, 0] S1x1024x516.size inb, p⟩])) = p := by
  funext y
  refine View.read_writes_cons_hit_of_coords M.view f (Rect.unit ![0, 0, 0] S1x1024x516.size inb) p [] y _ fun a => ?_
  have h1 : (y 0).val < 1 := (y 0).isLt
  fin_cases a <;> simp [Rect.unit] <;> omega

/-- After a store into half 1 of a scratch buffer that half holds the stored product. -/
theorem half1_stored {M : Memref sig .tc .vmem S2x1024x516 .f32} (f : M.view.ty.Contents (Elt F))
    (inb : ∀ a, (![1, 0, 0] : Fin 3 → ℕ) a + S1x1024x516.size a ≤ S2x1024x516.size a) (p : Vec F S1x1024x516 .f32) :
    half 1 (View.read (Elt F) M.view (M.view.writes (Elt F) f [⟨Rect.unit ![1, 0, 0] S1x1024x516.size inb, p⟩])) = p := by
  funext y
  refine View.read_writes_cons_hit_of_coords M.view f (Rect.unit ![1, 0, 0] S1x1024x516.size inb) p [] y _ fun a => ?_
  have h1 : (y 0).val < 1 := (y 0).isLt
  fin_cases a <;> simp [Rect.unit] <;> omega

/-- After a store of a whole buffer the buffer holds what was stored. -/
theorem stored_all {s : Shape} {e : EltTy} {M : Memref sig .tc .vmem s e} (f : M.view.ty.Contents (Elt F)) {off : Fin s.rank → ℕ}
    (inb : ∀ a, off a + s.size a ≤ s.size a) (w : s.Idx → Elt F e) :
    View.read (Elt F) M.view (M.view.writes (Elt F) f [⟨Rect.unit off s.size inb, w⟩]) = w :=
  View.read_writes_full M.view f inb w []

end Cert.KernelIdeal.Tower

end
-- ==== Proof.RefRows.lean ====
/- The reference, row by row: a soft mixture of experts' vector and class scores as sums over the experts. -/
module

public import proofs.«01_k».proof.Proof.Gen.ReferenceIdeal.Run
public import Idealize.ShloMosaic.Lib.Pointwise

@[expose] public section

set_option maxRecDepth 16384

noncomputable section

namespace Cert.Rows

open Idealize.ShloMosaic Idealize.ShloMosaic.TcCoe Idealize.SL.Sem

/-- The softmax of four logits: each one's exponential, the largest taken off first, over the sum of them all. -/
def soft (l : Fin 4 → EReal) (e : Fin 4) : EReal :=
  Ideal.div (Ideal.exp (l e - Finset.univ.fold max (Ideal.ofBits .f32 0xFF800000#32) l))
    (∑ k : Fin 4, Ideal.exp (l k - Finset.univ.fold max (Ideal.ofBits .f32 0xFF800000#32) l))

/-- One entry of the mixture: the experts' entries weighed by the softmax of the gate's logits. -/
def mix (l x : Fin 4 → EReal) : EReal := ∑ e : Fin 4, soft l e * x e

end Cert.Rows

namespace Cert.ReferenceIdeal.Tower

open Idealize.ShloMosaic Idealize.ShloMosaic.TcCoe Idealize.SL.Sem
open Cert.ReferenceIdeal Cert.ReferenceIdeal.Gen Cert.Rows

/-- The reference's softmax over the rows of the logits. -/
def gates (L : FVec Ideal S16384x4 .f32) : FVec Ideal S16384x4 .f32 :=
  Host.divf (Host.exp (subf L (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf L (constant S_ .f32 0xFF800000#32) reducesTo_S16384x4_S16384_d1 h_S_)))))) (broadcastInDim S16384x4 ![0, 1] bcast_S16384x1_S16384x4_0_1 (broadcastInDim S16384x1 ![0] bcast_S16384_S16384x1_0 (Host.reduceAdd (Host.exp (subf L (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf L (constant S_ .f32 0xFF800000#32) reducesTo_S16384x4_S16384_d1 h_S_)))))) (constant S_ .f32 0x00000000#32) reducesTo_S16384x4_S16384_d1 h_S_)))

/-- The image tower's gate logits. -/
def logitsI (X : FVec Ideal S16384x784 .f32) (gw : FVec Ideal S784x4 .f32) (gb : FVec Ideal S4 .f32) : FVec Ideal S16384x4 .f32 :=
  addf (Host.dotGeneral dot_S16384x784_S784x4_S16384x4_1_0_0_1_n_n none X gw) (broadcastInDim S16384x4 ![0, 1] bcast_S1x4_S16384x4_0_1 (broadcastInDim S1x4 ![1] bcast_S4_S1x4_1 gb))
/-- The text tower's gate logits. -/
def logitsT (X : FVec Ideal S16384x10 .f32) (gw : FVec Ideal S10x4 .f32) (gb : FVec Ideal S4 .f32) : FVec Ideal S16384x4 .f32 :=
  addf (Host.dotGeneral dot_S16384x10_S10x4_S16384x4_1_0_0_1_n_n none X gw) (broadcastInDim S16384x4 ![0, 1] bcast_S1x4_S16384x4_0_1 (broadcastInDim S1x4 ![1] bcast_S4_S1x4_1 gb))

/-- The image tower's expert outputs. -/
def expertsI (X : FVec Ideal S16384x784 .f32) (ew : FVec Ideal S4x784x128 .f32) (eb : FVec Ideal S4x128 .f32) : FVec Ideal S16384x4x128 .f32 :=
  addf (Host.dotGeneral dot_S16384x784_S4x784x128_S16384x4x128_1_1_0_02_n_n none X ew) (broadcastInDim S16384x4x128 ![0, 1, 2] bcast_S1x4x128_S16384x4x128_0_1_2 (broadcastInDim S1x4x128 ![1, 2] bcast_S4x128_S1x4x128_1_2 eb))
/-- The text tower's expert outputs. -/
def expertsT (X : FVec Ideal S16384x10 .f32) (ew : FVec Ideal S4x10x128 .f32) (eb : FVec Ideal S4x128 .f32) : FVec Ideal S16384x4x128 .f32 :=
  addf (Host.dotGeneral dot_S16384x10_S4x10x128_S16384x4x128_1_1_0_02_n_n none X ew) (broadcastInDim S16384x4x128 ![0, 1, 2] bcast_S1x4x128_S16384x4x128_0_1_2 (broadcastInDim S1x4x128 ![1, 2] bcast_S4x128_S1x4x128_1_2 eb))

/-- A tower's vectors: the experts weighed by the gates. -/
def vec (L : FVec Ideal S16384x4 .f32) (E : FVec Ideal S16384x4x128 .f32) : FVec Ideal S16384x128 .f32 :=
  Host.dotGeneral dot_S16384x4_S16384x4x128_S16384x128_1_1_n_2_0_0 none (gates L) E

/-- A tower's class scores. -/
def cls (V : FVec Ideal S16384x128 .f32) (cw : FVec Ideal S128x10 .f32) (cb : FVec Ideal S10 .f32) : FVec Ideal S16384x10 .f32 :=
  addf (Host.dotGeneral dot_S16384x128_S128x10_S16384x10_1_0_0_1_n_n none V cw) (broadcastInDim S16384x10 ![0, 1] bcast_S1x10_S16384x10_0_1 (broadcastInDim S1x10 ![1] bcast_S10_S1x10_1 cb))

/-- The largest of a row with the starting value put in once more is the largest of the row. -/
theorem max_fold (b : EReal) (l : Fin 4 → EReal) : max b (Finset.univ.fold max b l) = Finset.univ.fold max b l :=
  max_eq_right ((Finset.le_fold_max _).2 (.inl le_rfl))

/-- The gates at a row: the softmax of the row's logits. -/
theorem gates_at (L : FVec Ideal S16384x4 .f32) (r : Fin 16384) (e : Fin 4) :
    gates L (ix2 r e) = soft (fun k => L (ix2 r k)) e := by
  pointwise [gates, soft]
  simp only [max_fold]

/-- An entry of a tower's vectors. -/
theorem vec_at (L : FVec Ideal S16384x4 .f32) (E : FVec Ideal S16384x4x128 .f32) (r : Fin 16384) (o : Fin 128) :
    vec L E (ix2 r o) = mix (fun k => L (ix2 r k)) (fun e => E (ix3 r e o)) := by
  pointwise [vec, mix]
  exact Finset.sum_congr rfl fun e _ => by rw [gates_at]

/-- An image logit. -/
theorem logitsI_at (X gw gb) (r : Fin 16384) (e : Fin 4) :
    logitsI X gw gb (ix2 r e) = (∑ k : Fin 784, X (ix2 r k) * gw (ix2 k e)) + gb (ix1 e) := by
  pointwise [logitsI]
/-- A text logit. -/
theorem logitsT_at (X gw gb) (r : Fin 16384) (e : Fin 4) :
    logitsT X gw gb (ix2 r e) = (∑ k : Fin 10, X (ix2 r k) * gw (ix2 k e)) + gb (ix1 e) := by
  pointwise [logitsT]
/-- An image expert's entry. -/
theorem expertsI_at (X ew eb) (r : Fin 16384) (e : Fin 4) (o : Fin 128) :
    expertsI X ew eb (ix3 r e o) = (∑ k : Fin 784, X (ix2 r k) * ew (ix3 e k o)) + eb (ix2 e o) := by
  pointwise [expertsI]
/-- A text expert's entry. -/
theorem expertsT_at (X ew eb) (r : Fin 16384) (e : Fin 4) (o : Fin 128) :
    expertsT X ew eb (ix3 r e o) = (∑ k : Fin 10, X (ix2 r k) * ew (ix3 e k o)) + eb (ix2 e o) := by
  pointwise [expertsT]
/-- A class score. -/
theorem cls_at (V cw cb) (r : Fin 16384) (j : Fin 10) :
    cls V cw cb (ix2 r j) = (∑ k : Fin 128, V (ix2 r k) * cw (ix2 k j)) + cb (ix1 j) := by
  pointwise [cls]

end Cert.ReferenceIdeal.Tower

end
-- ==== Proof.KerRows.lean ====
/- The kernel's gating stage, row by row: what it makes of a block of products is the same sums over the experts. -/
module

public import proofs.«01_k».proof.Proof.Setup
public import proofs.«01_k».proof.Proof.RefRows

@[expose] public section

set_option maxRecDepth 16384

noncomputable section

namespace Cert.KernelIdeal.Tower

open Idealize.ShloMosaic Idealize.ShloMosaic.TcCoe Idealize.SL.Sem
open Cert.KernelIdeal Cert.KernelIdeal.Gen Cert.Rows

/-- The matrix that spreads each expert's gate over its 128 lanes. -/
def Spreads (S : FVec Ideal S4x512 .f32) : Prop :=
  ∀ (e : Fin 4) (j : Fin 512), S (ix2 e j) = if j.val / 128 = e.val then 1 else 0

/-- A row of gates times the spreading matrix: the gate of the lane's expert. -/
theorem spread_row {S : FVec Ideal S4x512 .f32} (hS : Spreads S) (g : Fin 4 → EReal) (j : Fin 512) (e : Fin 4) (h : j.val / 128 = e.val) :
    (∑ k : Fin 4, g k * S (ix2 k j)) = g e := by
  rw [Finset.sum_eq_single e]
  · rw [hS, if_pos h, mul_one]
  · intro k _ hk
    rw [hS, if_neg (fun h' => hk (Fin.ext (by omega))), mul_zero]
  · intro h'; exact absurd (Finset.mem_univ e) h'

/-- Four lanes of the gates spread and weighed: the mixture over the four experts. -/
theorem four {S : FVec Ideal S4x512 .f32} (hS : Spreads S) (g x : Fin 4 → EReal) (o : Fin 128) (j0 j1 j2 j3 : Fin 512)
    (h0 : j0.val = o.val) (h1 : j1.val = 128 + o.val) (h2 : j2.val = 256 + o.val) (h3 : j3.val = 384 + o.val)
    (a0 a1 a2 a3 : EReal) (e0 : a0 = x 0) (e1 : a1 = x 1) (e2 : a2 = x 2) (e3 : a3 = x 3) :
    (∑ k : Fin 4, g k * S (ix2 k j0)) * a0 + (∑ k : Fin 4, g k * S (ix2 k j1)) * a1 + (∑ k : Fin 4, g k * S (ix2 k j2)) * a2
        + (∑ k : Fin 4, g k * S (ix2 k j3)) * a3
      = ∑ e : Fin 4, g e * x e := by
  rw [spread_row hS g j0 0 (by show j0.val / 128 = 0; omega), spread_row hS g j1 1 (by show j1.val / 128 = 1; omega),
    spread_row hS g j2 2 (by show j2.val / 128 = 2; omega), spread_row hS g j3 3 (by show j3.val / 128 = 3; omega), e0, e1, e2, e3]
  exact (Fin.sum_univ_four fun e => g e * x e).symm

/-- An entry of the image tower's block of vectors. -/
theorem imgVec_at (s : FVec Ideal S1x1024x516 .f32) (gb : FVec Ideal S1x4 .f32) (eb : FVec Ideal S1x512 .f32) {S : FVec Ideal S4x512 .f32}
    (hS : Spreads S) (r : Fin 1024) (o : Fin 128) :
    imgVec (F := Ideal) s gb eb S (ix2 r o)
      = mix (fun e => s (ix3 0 r ⟨512 + e.val, by omega⟩) + gb (ix2 0 e))
          (fun e => s (ix3 0 r ⟨e.val * 128 + o.val, by omega⟩) + eb (ix2 0 ⟨e.val * 128 + o.val, by omega⟩)) := by
  have lane : ∀ (e : Fin 4) (j : Fin 512) (hj : j.val = e.val * 128 + o.val),
      s (ix3 0 r ⟨j.val, by omega⟩) + eb (ix2 0 j)
        = s (ix3 0 r ⟨e.val * 128 + o.val, by omega⟩) + eb (ix2 0 ⟨e.val * 128 + o.val, by omega⟩) := by
    intro e j hj
    obtain ⟨jv, hjv⟩ := j
    obtain rfl : jv = e.val * 128 + o.val := hj
    rfl
  have l0 := lane 0 ⟨o.val, by omega⟩ (by simp)
  have l1 := lane 1 ⟨128 + o.val, by omega⟩ (by simp)
  have l2 := lane 2 ⟨256 + o.val, by omega⟩ (by simp)
  have l3 := lane 3 ⟨384 + o.val, by omega⟩ (by simp)
  pointwise [imgVec, k0_pay13, k0_pay7, k0_pay8, k0_pay9, k0_pay11, k0_pay12]
  exact four hS (soft (fun e => s (ix3 0 r ⟨512 + e.val, by omega⟩) + gb (ix2 0 e)))
    (fun e => s (ix3 0 r ⟨e.val * 128 + o.val, by omega⟩) + eb (ix2 0 ⟨e.val * 128 + o.val, by omega⟩)) o _ _ _ _ rfl rfl rfl rfl _ _ _ _ l0 l1 l2 l3

/-- An entry of the text tower's block of vectors. -/
theorem txtVec_at (s : FVec Ideal S1x1024x516 .f32) (gb : FVec Ideal S1x4 .f32) (eb : FVec Ideal S1x512 .f32) {S : FVec Ideal S4x512 .f32}
    (hS : Spreads S) (r : Fin 1024) (o : Fin 128) :
    txtVec (F := Ideal) s gb eb S (ix2 r o)
      = mix (fun e => s (ix3 0 r ⟨512 + e.val, by omega⟩) + gb (ix2 0 e))
          (fun e => s (ix3 0 r ⟨e.val * 128 + o.val, by omega⟩) + eb (ix2 0 ⟨e.val * 128 + o.val, by omega⟩)) := by
  have lane : ∀ (e : Fin 4) (j : Fin 512) (hj : j.val = e.val * 128 + o.val),
      s (ix3 0 r ⟨j.val, by omega⟩) + eb (ix2 0 j)
        = s (ix3 0 r ⟨e.val * 128 + o.val, by omega⟩) + eb (ix2 0 ⟨e.val * 128 + o.val, by omega⟩) := by
    intro e j hj
    obtain ⟨jv, hjv⟩ := j
    obtain rfl : jv = e.val * 128 + o.val := hj
    rfl
  have l0 := lane 0 ⟨o.val, by omega⟩ (by simp)
  have l1 := lane 1 ⟨128 + o.val, by omega⟩ (by simp)
  have l2 := lane 2 ⟨256 + o.val, by omega⟩ (by simp)
  have l3 := lane 3 ⟨384 + o.val, by omega⟩ (by simp)
  pointwise [txtVec, k0_pay1, k0_pay7, k0_pay15, k0_pay16, k0_pay18]
  exact four hS (soft (fun e => s (ix3 0 r ⟨512 + e.val, by omega⟩) + gb (ix2 0 e)))
    (fun e => s (ix3 0 r ⟨e.val * 128 + o.val, by omega⟩) + eb (ix2 0 ⟨e.val * 128 + o.val, by omega⟩)) o _ _ _ _ rfl rfl rfl rfl _ _ _ _ l0 l1 l2 l3

/-- An entry of the image tower's block of class scores. -/
theorem imgCls_at (s : FVec Ideal S1x1024x516 .f32) (gb : FVec Ideal S1x4 .f32) (eb : FVec Ideal S1x512 .f32) (S : FVec Ideal S4x512 .f32)
    (cw : FVec Ideal S128x10 .f32) (cb : FVec Ideal S1x10 .f32) (r : Fin 1024) (j : Fin 10) :
    imgCls (F := Ideal) s gb eb S cw cb (ix2 r j)
      = (∑ k : Fin 128, imgVec (F := Ideal) s gb eb S (ix2 r k) * cw (ix2 k j)) + cb (ix2 0 j) := by
  pointwise [imgCls, imgVec, k0_pay14, k0_pay10]

/-- An entry of the text tower's block of class scores. -/
theorem txtCls_at (s : FVec Ideal S1x1024x516 .f32) (gb : FVec Ideal S1x4 .f32) (eb : FVec Ideal S1x512 .f32) (S : FVec Ideal S4x512 .f32)
    (cw : FVec Ideal S128x10 .f32) (cb : FVec Ideal S1x10 .f32) (r : Fin 1024) (j : Fin 10) :
    txtCls (F := Ideal) s gb eb S cw cb (ix2 r j)
      = (∑ k : Fin 128, txtVec (F := Ideal) s gb eb S (ix2 r k) * cw (ix2 k j)) + cb (ix2 0 j) := by
  pointwise [txtCls, txtVec, k0_pay2, k0_pay17]

/-- A product of the image tower's first stage. -/
theorem prodI_at (x : FVec Ideal S1024x784 .f32) (w : FVec Ideal S784x516 .bf16) (r : Fin 1024) (j : Fin 516) :
    k0_pay5 (F := Ideal) x w (ix3 0 r j) = ∑ k : Fin 784, x (ix2 r k) * w (ix2 k j) := by
  pointwise [k0_pay5]
/-- A product of the text tower's first stage. -/
theorem prodT_at (x : FVec Ideal S1024x10 .f32) (w : FVec Ideal S10x516 .bf16) (r : Fin 1024) (j : Fin 516) :
    k0_pay6 (F := Ideal) x w (ix3 0 r j) = ∑ k : Fin 10, x (ix2 r k) * w (ix2 k j) := by
  pointwise [k0_pay6]

end Cert.KernelIdeal.Tower

end
-- ==== Proof.Host.lean ====
/- What the host's operations before the kernel leave in the arrays that the kernel's windows read. -/
module

public import proofs.«01_k».proof.Proof.KerRows
public import Idealize.ShloMosaic.Lib.Claim
public import Idealize.ShloMosaic.Lib.Pipeline.ValueKit

@[expose] public section

set_option maxRecDepth 16384

noncomputable section

namespace Cert.KernelIdeal.Tower

open Idealize.ShloMosaic Idealize.ShloMosaic.TcCoe Idealize.SL.Sem
open Cert.KernelIdeal Cert.KernelIdeal.Gen Cert.Rows

variable (m : (ℓ : Loc nD τ sig) → Buf (Elt Ideal) ℓ) (c : Dev nD)

/-- The image tower's joined weights, in an expert's columns: the expert's weights. -/
theorem hostI_expert (k : Fin 784) (e : Fin 4) (o : Fin 128) :
    (V m c main_v20 : FVec Ideal S784x516 .bf16) (ix2 k ⟨e.val * 128 + o.val, by omega⟩)
      = (m ((c : Thread nD τ).loc main_arg4) : FVec Ideal S4x784x128 .f32) (ix3 e k o) := by
  entry_read
  pointwise
  rw [dif_pos (by omega)]
  blk_ext []
/-- The image tower's joined weights, in the last four columns: the gate's. -/
theorem hostI_gate (k : Fin 784) (e : Fin 4) :
    (V m c main_v20 : FVec Ideal S784x516 .bf16) (ix2 k ⟨512 + e.val, by omega⟩)
      = (m ((c : Thread nD τ).loc main_arg2) : FVec Ideal S784x4 .f32) (ix2 k e) := by
  entry_read
  pointwise
/-- The image tower's gate biases. -/
theorem hostI_gateBias (e : Fin 4) :
    (V m c main_v6 : FVec Ideal S1x4 .f32) (ix2 0 e) = (m ((c : Thread nD τ).loc main_arg3) : FVec Ideal S4 .f32) (ix1 e) := by
  entry_read
  pointwise
/-- The image tower's expert biases. -/
theorem hostI_expertBias (e : Fin 4) (o : Fin 128) :
    (V m c main_v8 : FVec Ideal S1x512 .f32) (ix2 0 ⟨e.val * 128 + o.val, by omega⟩)
      = (m ((c : Thread nD τ).loc main_arg5) : FVec Ideal S4x128 .f32) (ix2 e o) := by
  entry_read
  pointwise
/-- The image tower's class biases. -/
theorem hostI_classBias (j : Fin 10) :
    (V m c main_v10 : FVec Ideal S1x10 .f32) (ix2 0 j) = (m ((c : Thread nD τ).loc main_arg7) : FVec Ideal S10 .f32) (ix1 j) := by
  entry_read
  pointwise
/-- The text tower's joined weights, in an expert's columns: the expert's weights. -/
theorem hostT_expert (k : Fin 10) (e : Fin 4) (o : Fin 128) :
    (V m c main_v21 : FVec Ideal S10x516 .bf16) (ix2 k ⟨e.val * 128 + o.val, by omega⟩)
      = (m ((c : Thread nD τ).loc main_arg10) : FVec Ideal S4x10x128 .f32) (ix3 e k o) := by
  entry_read
  pointwise
  rw [dif_pos (by omega)]
  blk_ext []
/-- The text tower's joined weights, in the last four columns: the gate's. -/
theorem hostT_gate (k : Fin 10) (e : Fin 4) :
    (V m c main_v21 : FVec Ideal S10x516 .bf16) (ix2 k ⟨512 + e.val, by omega⟩)
      = (m ((c : Thread nD τ).loc main_arg8) : FVec Ideal S10x4 .f32) (ix2 k e) := by
  entry_read
  pointwise
/-- The text tower's gate biases. -/
theorem hostT_gateBias (e : Fin 4) :
    (V m c main_v7 : FVec Ideal S1x4 .f32) (ix2 0 e) = (m ((c : Thread nD τ).loc main_arg9) : FVec Ideal S4 .f32) (ix1 e) := by
  entry_read
  pointwise
/-- The text tower's expert biases. -/
theorem hostT_expertBias (e : Fin 4) (o : Fin 128) :
    (V m c main_v9 : FVec Ideal S1x512 .f32) (ix2 0 ⟨e.val * 128 + o.val, by omega⟩)
      = (m ((c : Thread nD τ).loc main_arg11) : FVec Ideal S4x128 .f32) (ix2 e o) := by
  entry_read
  pointwise
/-- The text tower's class biases. -/
theorem hostT_classBias (j : Fin 10) :
    (V m c main_v11 : FVec Ideal S1x10 .f32) (ix2 0 j) = (m ((c : Thread nD τ).loc main_arg13) : FVec Ideal S10 .f32) (ix1 j) := by
  entry_read
  pointwise
/-- The spreading matrix: one in an expert's own 128 lanes, zero in the others. -/
theorem host_spreads : Spreads (V m c main_v19 : FVec Ideal S4x512 .f32) := by
  intro e j
  entry_read
  pointwise
  show (((IntOp.cmpi .eq (IntOp.addi (BitVec.ofNat 32 e.val) 0#32) (BitVec.ofNat 32 (j.val / 128))).toNat : ℝ) : EReal) = _
  by_cases h : j.val / 128 = e.val
  · rw [h]
    simp [IntOp.cmpi, IntOp.addi]
  · have hne : BitVec.ofNat 32 e.val ≠ BitVec.ofNat 32 (j.val / 128) := fun h' => h (by
      have h2 := congrArg BitVec.toNat h'
      rw [BitVec.toNat_ofNat, BitVec.toNat_ofNat, Nat.mod_eq_of_lt (by omega), Nat.mod_eq_of_lt (by omega)] at h2
      exact h2.symm)
    simp [IntOp.cmpi, IntOp.addi, h, hne]

/-- Every window's block number at point `t`: the inputs by rows run one ahead of the outputs; the weights stay. -/
theorem idx : ∀ t : Fin cfg0.N, win0_0.index t = ![min t.val 15, 0] ∧ win0_1.index t = ![min t.val 15, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![max t.val 1 - 1, 0]
    ∧ win0_14.index t = ![max t.val 1 - 1, 0]
    ∧ win0_15.index t = ![max t.val 1 - 1, 0]
    ∧ win0_16.index t = ![max t.val 1 - 1, 0] :=
  (by decide +kernel : ∀ t : Fin grid0.N, _)

/-- The block of image rows that point `u` reads, before the last point: rows `1024 u` and on. -/
theorem blk0 (u : Fin cfg0.N) (hu : u.val < 16) (r : Fin 1024) (k : Fin 784) :
    (iblk m c 0 u : FVec Ideal S1024x784 .f32) (ix2 r k)
      = (m ((c : Thread nD τ).loc main_arg0) : FVec Ideal S16384x784 .f32) (ix2 ⟨u.val * 1024 + r.val, by omega⟩ k) := by
  have hm : min u.val 15 = u.val := by omega
  have hi : win0_0.index u = ![u.val, 0] := by rw [← hm]; exact (idx u).1
  blk_ext [iblk, V, hi]
/-- The block of text rows that point `u` reads, before the last point: rows `1024 u` and on. -/
theorem blk1 (u : Fin cfg0.N) (hu : u.val < 16) (r : Fin 1024) (k : Fin 10) :
    (iblk m c 1 u : FVec Ideal S1024x10 .f32) (ix2 r k)
      = (m ((c : Thread nD τ).loc main_arg1) : FVec Ideal S16384x10 .f32) (ix2 ⟨u.val * 1024 + r.val, by omega⟩ k) := by
  have hm : min u.val 15 = u.val := by omega
  have hi : win0_1.index u = ![u.val, 0] := by rw [← hm]; exact (idx u).2.1
  blk_ext [iblk, V, hi]
/-- Window 2 reads its whole array at every point. -/
theorem blk2 (t : Fin cfg0.N) : (iblk m c 2 t : FVec Ideal S784x516 .bf16) = (V m c main_v20 : FVec Ideal S784x516 .bf16) := by
  blk_ext! [iblk, idx t]
/-- Window 3 reads its whole array at every point. -/
theorem blk3 (t : Fin cfg0.N) : (iblk m c 3 t : FVec Ideal S1x4 .f32) = (V m c main_v6 : FVec Ideal S1x4 .f32) := by
  blk_ext! [iblk, idx t]
/-- Window 4 reads its whole array at every point. -/
theorem blk4 (t : Fin cfg0.N) : (iblk m c 4 t : FVec Ideal S1x512 .f32) = (V m c main_v8 : FVec Ideal S1x512 .f32) := by
  blk_ext! [iblk, idx t]
/-- Window 5 reads its whole array at every point. -/
theorem blk5 (t : Fin cfg0.N) : (iblk m c 5 t : FVec Ideal S4x512 .f32) = (V m c main_v19 : FVec Ideal S4x512 .f32) := by
  blk_ext! [iblk, idx t]
/-- Window 6 reads its whole array at every point. -/
theorem blk6 (t : Fin cfg0.N) : (iblk m c 6 t : FVec Ideal S128x10 .f32) = (V m c main_arg6 : FVec Ideal S128x10 .f32) := by
  blk_ext! [iblk, idx t]
/-- Window 7 reads its whole array at every point. -/
theorem blk7 (t : Fin cfg0.N) : (iblk m c 7 t : FVec Ideal S1x10 .f32) = (V m c main_v10 : FVec Ideal S1x10 .f32) := by
  blk_ext! [iblk, idx t]
/-- Window 8 reads its whole array at every point. -/
theorem blk8 (t : Fin cfg0.N) : (iblk m c 8 t : FVec Ideal S10x516 .bf16) = (V m c main_v21 : FVec Ideal S10x516 .bf16) := by
  blk_ext! [iblk, idx t]
/-- Window 9 reads its whole array at every point. -/
theorem blk9 (t : Fin cfg0.N) : (iblk m c 9 t : FVec Ideal S1x4 .f32) = (V m c main_v7 : FVec Ideal S1x4 .f32) := by
  blk_ext! [iblk, idx t]
/-- Window 10 reads its whole array at every point. -/
theorem blk10 (t : Fin cfg0.N) : (iblk m c 10 t : FVec Ideal S1x512 .f32) = (V m c main_v9 : FVec Ideal S1x512 .f32) := by
  blk_ext! [iblk, idx t]
/-- Window 11 reads its whole array at every point. -/
theorem blk11 (t : Fin cfg0.N) : (iblk m c 11 t : FVec Ideal S128x10 .f32) = (V m c main_arg12 : FVec Ideal S128x10 .f32) := by
  blk_ext! [iblk, idx t]
/-- Window 12 reads its whole array at every point. -/
theorem blk12 (t : Fin cfg0.N) : (iblk m c 12 t : FVec Ideal S1x10 .f32) = (V m c main_v11 : FVec Ideal S1x10 .f32) := by
  blk_ext! [iblk, idx t]

end Cert.KernelIdeal.Tower

end
-- ==== Proof.RunEven.lean ====
/- The body of the kernel at the even points. -/
module

public import proofs.«01_k».proof.Proof.Setup

@[expose] public section

set_option maxRecDepth 16384

noncomputable section

namespace Cert.KernelIdeal.Tower

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 2000000 in
/-- At an even point the body reads half 1 of the two scratch buffers, stores the gating stage's four blocks of what it read there, and leaves
    half 0 of each scratch buffer at the product of the point's input block with the tower's weights. -/
theorem run_even (c : Dev nD) (i : grid0.Coords) (arg1 : Memref sig .tc .vmem S1024x784 .f32) (harg1 : arg1.IsWhole) (arg2 : Memref sig .tc .vmem S1024x10 .f32) (harg2 : arg2.IsWhole) (arg3 : Memref sig .tc .vmem S784x516 .bf16) (harg3 : arg3.IsWhole) (arg4 : Memref sig .tc .vmem S1x4 .f32) (harg4 : arg4.IsWhole) (arg5 : Memref sig .tc .vmem S1x512 .f32) (harg5 : arg5.IsWhole) (arg6 : Memref sig .tc .vmem S4x512 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S10x516 .bf16) (harg9 : arg9.IsWhole) (arg10 : Memref sig .tc .vmem S1x4 .f32) (harg10 : arg10.IsWhole) (arg11 : Memref sig .tc .vmem S1x512 .f32) (harg11 : arg11.IsWhole) (arg12 : Memref sig .tc .vmem S128x10 .f32) (harg12 : arg12.IsWhole) (arg13 : Memref sig .tc .vmem S1x10 .f32) (harg13 : arg13.IsWhole) (arg14 : Memref sig .tc .vmem S1024x10 .f32) (harg14 : arg14.IsWhole) (arg15 : Memref sig .tc .vmem S1024x10 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S2x1024x516 .f32) (harg18 : arg18.IsWhole) (arg19 : Memref sig .tc .vmem S2x1024x516 .f32) (harg19 : arg19.IsWhole) (he : evenAt i) (ho : ¬ oddAt i)
    (x0 : Vec F S1024x784 .f32) (x1 : Vec F S1024x10 .f32) (x2 : Vec F S784x516 .bf16) (x3 : Vec F S1x4 .f32) (x4 : Vec F S1x512 .f32) (x5 : Vec F S4x512 .f32) (x6 : Vec F S128x10 .f32) (x7 : Vec F S1x10 .f32) (x8 : Vec F S10x516 .bf16) (x9 : Vec F S1x4 .f32) (x10 : Vec F S1x512 .f32) (x11 : Vec F S128x10 .f32) (x12 : Vec F S1x10 .f32) (X0 X1 : Vec F S2x1024x516 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare X0 ∗ owns (c : Thread nD τ) arg19 fullShare X1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (imgCls (half 1 X0) x3 x4 x5 x6 x7) ∗ owns (c : Thread nD τ) arg15 fullShare (txtCls (half 1 X1) x9 x10 x5 x11 x12) ∗ owns (c : Thread nD τ) arg16 fullShare (imgVec (half 1 X0) x3 x4 x5) ∗ owns (c : Thread nD τ) arg17 fullShare (txtVec (half 1 X1) x9 x10 x5) ∗ (∃ Y0, ⌜half 0 Y0 = k0_pay5 x0 x2⌝ ∗ owns (c : Thread nD τ) arg18 fullShare Y0) ∗ (∃ Y1, ⌜half 0 Y1 = k0_pay6 x1 x8⌝ ∗ owns (c : Thread nD τ) arg19 fullShare Y1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__fused_body_eq_skeleton]; unfold cc0__fused_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hfs0; obtain rfl := harg19.eq_unread hfs1
    sl_exec (disch := first | sl_exact he | sl_exact ho)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      refine (stored_all _ _ _).trans ?_
      conv_rhs => rw [← load_half1 harg18 inb_S2x1024x516_S1x1024x516_1_0_0 X0, ← load_all harg4 inb_S1x4_S1x4_0_0 x3 (by decide), ← load_all harg5 inb_S1x512_S1x512_0_0 x4 (by decide), ← load_all harg6 inb_S4x512_S4x512_0_0 x5 (by decide), ← load_all harg7 inb_S128x10_S128x10_0_0 x6 (by decide), ← load_all harg8 inb_S1x10_S1x10_0_0 x7 (by decide)]
      rfl
    isplitl [H14]
    · iexists _; isplitr; swap; · iexact H14
      ipureintro
      refine (stored_all _ _ _).trans ?_
      conv_rhs => rw [← load_half1 harg19 inb_S2x1024x516_S1x1024x516_1_0_0 X1, ← load_all harg10 inb_S1x4_S1x4_0_0 x9 (by decide), ← load_all harg11 inb_S1x512_S1x512_0_0 x10 (by decide), ← load_all harg6 inb_S4x512_S4x512_0_0 x5 (by decide), ← load_all harg12 inb_S128x10_S128x10_0_0 x11 (by decide), ← load_all harg13 inb_S1x10_S1x10_0_0 x12 (by decide)]
      rfl
    isplitl [H15]
    · iexists _; isplitr; swap; · iexact H15
      ipureintro
      refine (stored_all _ _ _).trans ?_
      conv_rhs => rw [← load_half1 harg18 inb_S2x1024x516_S1x1024x516_1_0_0 X0, ← load_all harg4 inb_S1x4_S1x4_0_0 x3 (by decide), ← load_all harg5 inb_S1x512_S1x512_0_0 x4 (by decide), ← load_all harg6 inb_S4x512_S4x512_0_0 x5 (by decide)]
      rfl
    isplitl [H16]
    · iexists _; isplitr; swap; · iexact H16
      ipureintro
      refine (stored_all _ _ _).trans ?_
      conv_rhs => rw [← load_half1 harg19 inb_S2x1024x516_S1x1024x516_1_0_0 X1, ← load_all harg10 inb_S1x4_S1x4_0_0 x9 (by decide), ← load_all harg11 inb_S1x512_S1x512_0_0 x10 (by decide), ← load_all harg6 inb_S4x512_S4x512_0_0 x5 (by decide)]
      rfl
    isplitl [HS0]
    · iexists _; isplitr; swap
      · iexists _; isplitr; swap; · iexact HS0
        ipureintro; rfl
      ipureintro
      refine (half0_stored _ _ _).trans ?_
      conv_rhs => rw [← load_all harg1 inb_S1024x784_S1024x784_0_0 x0 (by decide), ← load_all harg3 inb_S784x516_S784x516_0_0 x2 (by decide)]
    iexists _; isplitr; swap
    · iexists _; isplitr; swap; · iexact HS1
      ipureintro; rfl
    ipureintro
    refine (half0_stored _ _ _).trans ?_
    conv_rhs => rw [← load_all harg2 inb_S1024x10_S1024x10_0_0 x1 (by decide), ← load_all harg9 inb_S10x516_S10x516_0_0 x8 (by decide)]

end Cert.KernelIdeal.Tower

end
-- ==== Proof.RunOdd.lean ====
/- The body of the kernel at the odd points. -/
module

public import proofs.«01_k».proof.Proof.RunEven

@[expose] public section

set_option maxRecDepth 16384

noncomputable section

namespace Cert.KernelIdeal.Tower

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 2000000 in
/-- At an odd point the body reads half 0 of the two scratch buffers, stores the gating stage's four blocks of what it read there, and leaves
    half 1 of each scratch buffer at the product of the point's input block with the tower's weights. -/
theorem run_odd (c : Dev nD) (i : grid0.Coords) (arg1 : Memref sig .tc .vmem S1024x784 .f32) (harg1 : arg1.IsWhole) (arg2 : Memref sig .tc .vmem S1024x10 .f32) (harg2 : arg2.IsWhole) (arg3 : Memref sig .tc .vmem S784x516 .bf16) (harg3 : arg3.IsWhole) (arg4 : Memref sig .tc .vmem S1x4 .f32) (harg4 : arg4.IsWhole) (arg5 : Memref sig .tc .vmem S1x512 .f32) (harg5 : arg5.IsWhole) (arg6 : Memref sig .tc .vmem S4x512 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S10x516 .bf16) (harg9 : arg9.IsWhole) (arg10 : Memref sig .tc .vmem S1x4 .f32) (harg10 : arg10.IsWhole) (arg11 : Memref sig .tc .vmem S1x512 .f32) (harg11 : arg11.IsWhole) (arg12 : Memref sig .tc .vmem S128x10 .f32) (harg12 : arg12.IsWhole) (arg13 : Memref sig .tc .vmem S1x10 .f32) (harg13 : arg13.IsWhole) (arg14 : Memref sig .tc .vmem S1024x10 .f32) (harg14 : arg14.IsWhole) (arg15 : Memref sig .tc .vmem S1024x10 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S2x1024x516 .f32) (harg18 : arg18.IsWhole) (arg19 : Memref sig .tc .vmem S2x1024x516 .f32) (harg19 : arg19.IsWhole) (he : ¬ evenAt i) (ho : oddAt i)
    (x0 : Vec F S1024x784 .f32) (x1 : Vec F S1024x10 .f32) (x2 : Vec F S784x516 .bf16) (x3 : Vec F S1x4 .f32) (x4 : Vec F S1x512 .f32) (x5 : Vec F S4x512 .f32) (x6 : Vec F S128x10 .f32) (x7 : Vec F S1x10 .f32) (x8 : Vec F S10x516 .bf16) (x9 : Vec F S1x4 .f32) (x10 : Vec F S1x512 .f32) (x11 : Vec F S128x10 .f32) (x12 : Vec F S1x10 .f32) (X0 X1 : Vec F S2x1024x516 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare X0 ∗ owns (c : Thread nD τ) arg19 fullShare X1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (imgCls (half 0 X0) x3 x4 x5 x6 x7) ∗ owns (c : Thread nD τ) arg15 fullShare (txtCls (half 0 X1) x9 x10 x5 x11 x12) ∗ owns (c : Thread nD τ) arg16 fullShare (imgVec (half 0 X0) x3 x4 x5) ∗ owns (c : Thread nD τ) arg17 fullShare (txtVec (half 0 X1) x9 x10 x5) ∗ (∃ Y0, ⌜half 1 Y0 = k0_pay5 x0 x2⌝ ∗ owns (c : Thread nD τ) arg18 fullShare Y0) ∗ (∃ Y1, ⌜half 1 Y1 = k0_pay6 x1 x8⌝ ∗ owns (c : Thread nD τ) arg19 fullShare Y1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0__fused_body_eq_skeleton]; unfold cc0__fused_body_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hfs0; obtain rfl := harg19.eq_unread hfs1
    sl_exec (disch := first | sl_exact he | sl_exact ho)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      refine (stored_all _ _ _).trans ?_
      conv_rhs => rw [← load_half0 harg18 inb_S2x1024x516_S1x1024x516_0_0_0 X0, ← load_all harg4 inb_S1x4_S1x4_0_0 x3 (by decide), ← load_all harg5 inb_S1x512_S1x512_0_0 x4 (by decide), ← load_all harg6 inb_S4x512_S4x512_0_0 x5 (by decide), ← load_all harg7 inb_S128x10_S128x10_0_0 x6 (by decide), ← load_all harg8 inb_S1x10_S1x10_0_0 x7 (by decide)]
      rfl
    isplitl [H14]
    · iexists _; isplitr; swap; · iexact H14
      ipureintro
      refine (stored_all _ _ _).trans ?_
      conv_rhs => rw [← load_half0 harg19 inb_S2x1024x516_S1x1024x516_0_0_0 X1, ← load_all harg10 inb_S1x4_S1x4_0_0 x9 (by decide), ← load_all harg11 inb_S1x512_S1x512_0_0 x10 (by decide), ← load_all harg6 inb_S4x512_S4x512_0_0 x5 (by decide), ← load_all harg12 inb_S128x10_S128x10_0_0 x11 (by decide), ← load_all harg13 inb_S1x10_S1x10_0_0 x12 (by decide)]
      rfl
    isplitl [H15]
    · iexists _; isplitr; swap; · iexact H15
      ipureintro
      refine (stored_all _ _ _).trans ?_
      conv_rhs => rw [← load_half0 harg18 inb_S2x1024x516_S1x1024x516_0_0_0 X0, ← load_all harg4 inb_S1x4_S1x4_0_0 x3 (by decide), ← load_all harg5 inb_S1x512_S1x512_0_0 x4 (by decide), ← load_all harg6 inb_S4x512_S4x512_0_0 x5 (by decide)]
      rfl
    isplitl [H16]
    · iexists _; isplitr; swap; · iexact H16
      ipureintro
      refine (stored_all _ _ _).trans ?_
      conv_rhs => rw [← load_half0 harg19 inb_S2x1024x516_S1x1024x516_0_0_0 X1, ← load_all harg10 inb_S1x4_S1x4_0_0 x9 (by decide), ← load_all harg11 inb_S1x512_S1x512_0_0 x10 (by decide), ← load_all harg6 inb_S4x512_S4x512_0_0 x5 (by decide)]
      rfl
    isplitl [HS0]
    · iexists _; isplitr; swap
      · iexists _; isplitr; swap; · iexact HS0
        ipureintro; rfl
      ipureintro
      refine (half1_stored _ _ _).trans ?_
      conv_rhs => rw [← load_all harg1 inb_S1024x784_S1024x784_0_0 x0 (by decide), ← load_all harg3 inb_S784x516_S784x516_0_0 x2 (by decide)]
      rfl
    iexists _; isplitr; swap
    · iexists _; isplitr; swap; · iexact HS1
      ipureintro; rfl
    ipureintro
    refine (half1_stored _ _ _).trans ?_
    conv_rhs => rw [← load_all harg2 inb_S1024x10_S1024x10_0_0 x1 (by decide), ← load_all harg9 inb_S10x516_S10x516_0_0 x8 (by decide)]
    rfl

end Cert.KernelIdeal.Tower

end
-- ==== Proof.Run.lean ====
/- The kernel's pipeline: what the scratch buffers hold between the points, what each point leaves in the outputs, and the run of the whole program. -/
module

public import proofs.«01_k».proof.Proof.RunOdd
public import Idealize.ShloMosaic.Lib.Claim
public import Idealize.ShloMosaic.Lib.Pipeline.ArrRel

@[expose] public section

set_option maxRecDepth 16384

noncomputable section

namespace Cert.KernelIdeal.Tower

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The image tower's products of the block that point `u` reads. -/
def prodI (c : Dev nD) (u : Fin cfg0.N) : Vec F S1x1024x516 .f32 := k0_pay5 (iblk m c 0 u) (iblk m c 2 u)
/-- The text tower's products of the block that point `u` reads. -/
def prodT (c : Dev nD) (u : Fin cfg0.N) : Vec F S1x1024x516 .f32 := k0_pay6 (iblk m c 1 u) (iblk m c 8 u)

/-- The half of a scratch buffer that point `u` writes. -/
def halfOf (u : ℕ) : Fin 2 := if u % 2 = 0 then 0 else 1

/-- Before point `t` the two scratch buffers hold, in the half that the point before wrote, that point's products. -/
def inv (c : Dev nD) (t : ℕ) : sProp 𝕄 :=
  iprop((∃ X0 : Vec F S2x1024x516 .f32, ⌜∀ u : Fin cfg0.N, u.val + 1 = t → half (halfOf u.val) X0 = prodI m c u⌝ ∗ owns (c : Thread nD τ) scrI fullShare X0)
    ∗ (∃ X1 : Vec F S2x1024x516 .f32, ⌜∀ u : Fin cfg0.N, u.val + 1 = t → half (halfOf u.val) X1 = prodT m c u⌝ ∗ owns (c : Thread nD τ) scrT fullShare X1)
    ∗ (∃ r, prngReg c r))

/-- What the body leaves in an output window at point `t`, if there was a point before: the gating stage's block of that point's products. -/
def Leaves13 (c : Dev nD) (t : Fin cfg0.N) (X : Vec F S1024x10 .f32) : Prop :=
  ∀ u : Fin cfg0.N, u.val + 1 = t.val → X = imgCls (prodI m c u) (iblk m c 3 t) (iblk m c 4 t) (iblk m c 5 t) (iblk m c 6 t) (iblk m c 7 t)
/-- The same of the text tower's class scores. -/
def Leaves14 (c : Dev nD) (t : Fin cfg0.N) (X : Vec F S1024x10 .f32) : Prop :=
  ∀ u : Fin cfg0.N, u.val + 1 = t.val → X = txtCls (prodT m c u) (iblk m c 9 t) (iblk m c 10 t) (iblk m c 5 t) (iblk m c 11 t) (iblk m c 12 t)
/-- The same of the image tower's vectors. -/
def Leaves15 (c : Dev nD) (t : Fin cfg0.N) (X : Vec F S1024x128 .f32) : Prop :=
  ∀ u : Fin cfg0.N, u.val + 1 = t.val → X = imgVec (prodI m c u) (iblk m c 3 t) (iblk m c 4 t) (iblk m c 5 t)
/-- The same of the text tower's vectors. -/
def Leaves16 (c : Dev nD) (t : Fin cfg0.N) (X : Vec F S1024x128 .f32) : Prop :=
  ∀ u : Fin cfg0.N, u.val + 1 = t.val → X = txtVec (prodT m c u) (iblk m c 9 t) (iblk m c 10 t) (iblk m c 5 t)

/-- The output windows: what they hold is stated by a predicate, not named outright (at point 0 it is whatever the scratch buffers held). -/
def outs : Fin 17 → Bool := fun w => w.val == 13 || w.val == 14 || w.val == 15 || w.val == 16

/-- The predicate of each output window; of an input window nothing. -/
def rel (c : Dev nD) (w : Fin cfg0.W) (t : Fin cfg0.N) : ((cfg0.win w).block.Idx → Elt F (cfg0.win w).elt) → Prop :=
  match w with
  | ⟨13, _⟩ => Leaves13 m c t
  | ⟨14, _⟩ => Leaves14 m c t
  | ⟨15, _⟩ => Leaves15 m c t
  | ⟨16, _⟩ => Leaves16 m c t
  | _ => fun _ => True

/-- The pipeline's proof data: the inputs at their blocks, the outputs' contents unnamed, the invariant `inv`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := inv m c t.val
  q _ := fullShare
  owed _ := 0

/-- The data's arrays are those the region finds. -/
theorem dats_A (c : Dev nD) (w : Fin cfg0.W) : (dats m 0 c).A w = V m c (Pipeline.arrRef spec0 w) := by
  dsimp only [dats]

/-- The body leaves input window 0 at its block. -/
theorem after0 (c : Dev nD) (t : Fin cfg0.N) : (dats m 0 c).after 0 t = iblk m c 0 t := by dsimp only [dats]
/-- The body finds input window 0 at its block. -/
theorem found0 (c : Dev nD) (t : Fin cfg0.N) (d) : (dats m 0 c).before 0 t d = iblk m c 0 t :=
  before0_0_of m (dats m 0 c) (dats_A m c 0) (after0 m c) t d
/-- The body leaves input window 1 at its block. -/
theorem after1 (c : Dev nD) (t : Fin cfg0.N) : (dats m 0 c).after 1 t = iblk m c 1 t := by dsimp only [dats]
/-- The body finds input window 1 at its block. -/
theorem found1 (c : Dev nD) (t : Fin cfg0.N) (d) : (dats m 0 c).before 1 t d = iblk m c 1 t :=
  before0_1_of m (dats m 0 c) (dats_A m c 1) (after1 m c) t d
/-- The body leaves input window 2 at its block. -/
theorem after2 (c : Dev nD) (t : Fin cfg0.N) : (dats m 0 c).after 2 t = iblk m c 2 t := by dsimp only [dats]
/-- The body finds input window 2 at its block. -/
theorem found2 (c : Dev nD) (t : Fin cfg0.N) (d) : (dats m 0 c).before 2 t d = iblk m c 2 t :=
  before0_2_of m (dats m 0 c) (dats_A m c 2) (after2 m c) t d
/-- The body leaves input window 3 at its block. -/
theorem after3 (c : Dev nD) (t : Fin cfg0.N) : (dats m 0 c).after 3 t = iblk m c 3 t := by dsimp only [dats]
/-- The body finds input window 3 at its block. -/
theorem found3 (c : Dev nD) (t : Fin cfg0.N) (d) : (dats m 0 c).before 3 t d = iblk m c 3 t :=
  before0_3_of m (dats m 0 c) (dats_A m c 3) (after3 m c) t d
/-- The body leaves input window 4 at its block. -/
theorem after4 (c : Dev nD) (t : Fin cfg0.N) : (dats m 0 c).after 4 t = iblk m c 4 t := by dsimp only [dats]
/-- The body finds input window 4 at its block. -/
theorem found4 (c : Dev nD) (t : Fin cfg0.N) (d) : (dats m 0 c).before 4 t d = iblk m c 4 t :=
  before0_4_of m (dats m 0 c) (dats_A m c 4) (after4 m c) t d
/-- The body leaves input window 5 at its block. -/
theorem after5 (c : Dev nD) (t : Fin cfg0.N) : (dats m 0 c).after 5 t = iblk m c 5 t := by dsimp only [dats]
/-- The body finds input window 5 at its block. -/
theorem found5 (c : Dev nD) (t : Fin cfg0.N) (d) : (dats m 0 c).before 5 t d = iblk m c 5 t :=
  before0_5_of m (dats m 0 c) (dats_A m c 5) (after5 m c) t d
/-- The body leaves input window 6 at its block. -/
theorem after6 (c : Dev nD) (t : Fin cfg0.N) : (dats m 0 c).after 6 t = iblk m c 6 t := by dsimp only [dats]
/-- The body finds input window 6 at its block. -/
theorem found6 (c : Dev nD) (t : Fin cfg0.N) (d) : (dats m 0 c).before 6 t d = iblk m c 6 t :=
  before0_6_of m (dats m 0 c) (dats_A m c 6) (after6 m c) t d
/-- The body leaves input window 7 at its block. -/
theorem after7 (c : Dev nD) (t : Fin cfg0.N) : (dats m 0 c).after 7 t = iblk m c 7 t := by dsimp only [dats]
/-- The body finds input window 7 at its block. -/
theorem found7 (c : Dev nD) (t : Fin cfg0.N) (d) : (dats m 0 c).before 7 t d = iblk m c 7 t :=
  before0_7_of m (dats m 0 c) (dats_A m c 7) (after7 m c) t d
/-- The body leaves input window 8 at its block. -/
theorem after8 (c : Dev nD) (t : Fin cfg0.N) : (dats m 0 c).after 8 t = iblk m c 8 t := by dsimp only [dats]
/-- The body finds input window 8 at its block. -/
theorem found8 (c : Dev nD) (t : Fin cfg0.N) (d) : (dats m 0 c).before 8 t d = iblk m c 8 t :=
  before0_8_of m (dats m 0 c) (dats_A m c 8) (after8 m c) t d
/-- The body leaves input window 9 at its block. -/
theorem after9 (c : Dev nD) (t : Fin cfg0.N) : (dats m 0 c).after 9 t = iblk m c 9 t := by dsimp only [dats]
/-- The body finds input window 9 at its block. -/
theorem found9 (c : Dev nD) (t : Fin cfg0.N) (d) : (dats m 0 c).before 9 t d = iblk m c 9 t :=
  before0_9_of m (dats m 0 c) (dats_A m c 9) (after9 m c) t d
/-- The body leaves input window 10 at its block. -/
theorem after10 (c : Dev nD) (t : Fin cfg0.N) : (dats m 0 c).after 10 t = iblk m c 10 t := by dsimp only [dats]
/-- The body finds input window 10 at its block. -/
theorem found10 (c : Dev nD) (t : Fin cfg0.N) (d) : (dats m 0 c).before 10 t d = iblk m c 10 t :=
  before0_10_of m (dats m 0 c) (dats_A m c 10) (after10 m c) t d
/-- The body leaves input window 11 at its block. -/
theorem after11 (c : Dev nD) (t : Fin cfg0.N) : (dats m 0 c).after 11 t = iblk m c 11 t := by dsimp only [dats]
/-- The body finds input window 11 at its block. -/
theorem found11 (c : Dev nD) (t : Fin cfg0.N) (d) : (dats m 0 c).before 11 t d = iblk m c 11 t :=
  before0_11_of m (dats m 0 c) (dats_A m c 11) (after11 m c) t d
/-- The body leaves input window 12 at its block. -/
theorem after12 (c : Dev nD) (t : Fin cfg0.N) : (dats m 0 c).after 12 t = iblk m c 12 t := by dsimp only [dats]
/-- The body finds input window 12 at its block. -/
theorem found12 (c : Dev nD) (t : Fin cfg0.N) (d) : (dats m 0 c).before 12 t d = iblk m c 12 t :=
  before0_12_of m (dats m 0 c) (dats_A m c 12) (after12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ Y, ⌜((dats m 0 c).toRRel outs (rel m c)).Finds 13 t Y⌝ ∗ owns (c : Thread nD τ) (stg13 t) fullShare Y)
    ∗ (∃ Y, ⌜((dats m 0 c).toRRel outs (rel m c)).Finds 14 t Y⌝ ∗ owns (c : Thread nD τ) (stg14 t) fullShare Y)
    ∗ (∃ Y, ⌜((dats m 0 c).toRRel outs (rel m c)).Finds 15 t Y⌝ ∗ owns (c : Thread nD τ) (stg15 t) fullShare Y)
    ∗ (∃ Y, ⌜((dats m 0 c).toRRel outs (rel m c)).Finds 16 t Y⌝ ∗ owns (c : Thread nD τ) (stg16 t) fullShare Y))

/-- What the body gives back at point `t`. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ (∃ X, ⌜Leaves13 m c t X⌝ ∗ owns (c : Thread nD τ) (stg13 t) fullShare X)
    ∗ (∃ X, ⌜Leaves14 m c t X⌝ ∗ owns (c : Thread nD τ) (stg14 t) fullShare X)
    ∗ (∃ X, ⌜Leaves15 m c t X⌝ ∗ owns (c : Thread nD τ) (stg15 t) fullShare X)
    ∗ (∃ X, ⌜Leaves16 m c t X⌝ ∗ owns (c : Thread nD τ) (stg16 t) fullShare X))

/-- The half that an even point writes. -/
theorem halfOf_even {u : ℕ} (h : u % 2 = 0) : halfOf u = 0 := if_pos h
/-- The half that an odd point writes. -/
theorem halfOf_odd {u : ℕ} (h : u % 2 = 1) : halfOf u = 1 := if_neg (by omega)

set_option maxHeartbeats 3200000 in
/-- The body at an even point: what it finds in the half it reads is the products of the point before, and it leaves its own in the other. -/
theorem body_even (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8, found9, found10, found11, found12, after0, after1, after2, after3, after4, after5, after6, after7, after8, after9, after10, after11, after12]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨⟨%X0, %hX0, HS0⟩, ⟨%X1, %hX1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, -, H13⟩, ⟨%d14, -, H14⟩, ⟨%d15, -, H15⟩, ⟨%d16, -, H16⟩⟩
  have e0 : ∀ u : Fin cfg0.N, u.val + 1 = t.val → half 1 X0 = prodI m c u := fun u hu => by
    rw [← hX0 u hu, halfOf_odd (by omega)]
  have e1 : ∀ u : Fin cfg0.N, u.val + 1 = t.val → half 1 X1 = prodT m c u := fun u hu => by
    rw [← hX1 u hu, halfOf_odd (by omega)]
  iapply ((run_even c (grid0.coords t) _ _ _ _ _ _ _ _ _ _ _ _ _ _ _ _ _ _ _ _ _ _ _ _ _ _ _ _ _ _ _ _ _ _ _ _ _ _ ((evenAt_iff t).mpr h) (fun h' => by have := (oddAt_iff t).mp h'; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) X0 X1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, ⟨%Y0, %hY0, HS0⟩, ⟨%Y1, %hY1, HS1⟩⟩
  isplitl [HS0 HS1 Hg]
  · isplitl [HS0]
    · iexists Y0; isplitr
      · ipureintro; intro u hu; obtain rfl : u = t := Fin.ext (by omega); rw [halfOf_even h]; exact hY0
      iexact HS0
    isplitl [HS1]
    · iexists Y1; isplitr
      · ipureintro; intro u hu; obtain rfl : u = t := Fin.ext (by omega); rw [halfOf_even h]; exact hY1
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; intro u hu; rw [e0 u hu]
  isplitl [H14]
  · iexists _; isplitr; swap; · iexact H14
    ipureintro; intro u hu; rw [e1 u hu]
  isplitl [H15]
  · iexists _; isplitr; swap; · iexact H15
    ipureintro; intro u hu; rw [e0 u hu]
  iexists _; isplitr; swap; · iexact H16
  ipureintro; intro u hu; rw [e1 u hu]

set_option maxHeartbeats 3200000 in
/-- The body at an odd point: what it finds in the half it reads is the products of the point before, and it leaves its own in the other. -/
theorem body_odd (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8, found9, found10, found11, found12, after0, after1, after2, after3, after4, after5, after6, after7, after8, after9, after10, after11, after12]
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv
  iintro ⟨⟨⟨%X0, %hX0, HS0⟩, ⟨%X1, %hX1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, -, H13⟩, ⟨%d14, -, H14⟩, ⟨%d15, -, H15⟩, ⟨%d16, -, H16⟩⟩
  have e0 : ∀ u : Fin cfg0.N, u.val + 1 = t.val → half 0 X0 = prodI m c u := fun u hu => by
    rw [← hX0 u hu, halfOf_even (by omega)]
  have e1 : ∀ u : Fin cfg0.N, u.val + 1 = t.val → half 0 X1 = prodT m c u := fun u hu => by
    rw [← hX1 u hu, halfOf_even (by omega)]
  iapply ((run_odd c (grid0.coords t) _ _ _ _ _ _ _ _ _ _ _ _ _ _ _ _ _ _ _ _ _ _ _ _ _ _ _ _ _ _ _ _ _ _ _ _ _ _ (fun h' => by have := (evenAt_iff t).mp h'; omega) ((oddAt_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) X0 X1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, ⟨%Y0, %hY0, HS0⟩, ⟨%Y1, %hY1, HS1⟩⟩
  isplitl [HS0 HS1 Hg]
  · isplitl [HS0]
    · iexists Y0; isplitr
      · ipureintro; intro u hu; obtain rfl : u = t := Fin.ext (by omega); rw [halfOf_odd h]; exact hY0
      iexact HS0
    isplitl [HS1]
    · iexists Y1; isplitr
      · ipureintro; intro u hu; obtain rfl : u = t := Fin.ext (by omega); rw [halfOf_odd h]; exact hY1
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap; · iexact H13
    ipureintro; intro u hu; rw [e0 u hu]
  isplitl [H14]
  · iexists _; isplitr; swap; · iexact H14
    ipureintro; intro u hu; rw [e1 u hu]
  isplitl [H15]
  · iexists _; isplitr; swap; · iexact H15
    ipureintro; intro u hu; rw [e0 u hu]
  iexists _; isplitr; swap; · iexact H16
  ipureintro; intro u hu; rw [e1 u hu]

/-- The body at any point. -/
theorem body_at (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · exact body_even m c t h
  · exact body_odd m c t h

/-- The body table's row at point `t` is the body at `t`. -/
theorem body_row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) :
    BodyObligationRel (dats (F := F) m 0 c) (defs₀ (F := F)) Variants.none () Set.univ outs (rel m c) := fun t => by
  rw [bigSep_W0, bigSep_W0, body_row]
  exact triple_restated (body_at m c t) rfl .rfl fun _ => .rfl

/-- What the region hands the body gives the invariant before point 0: no point is before it. -/
theorem inv_in (c : Dev nD) : Pipeline.ΦA spec0 c ⊢ (inv m c 0 : sProp 𝕄) := by
  rw [regionInv_eq]; unfold inv
  iintro ⟨⟨⟨%X0, HS0⟩, ⟨%X1, HS1⟩⟩, Hg⟩
  isplitl [HS0]
  · iexists X0; isplitr
    · ipureintro; intro u hu; omega
    iexact HS0
  isplitl [HS1]
  · iexists X1; isplitr
    · ipureintro; intro u hu; omega
    iexact HS1
  iexact Hg

/-- The invariant after the last point gives the region back what it handed over. -/
theorem inv_out (c : Dev nD) (n : ℕ) : (inv m c n : sProp 𝕄) ⊢ Pipeline.ΦA spec0 c := by
  rw [regionInv_eq]; unfold inv
  iintro ⟨⟨%X0, -, HS0⟩, ⟨%X1, -, HS1⟩, Hg⟩
  isplitl [HS0 HS1]
  · isplitl [HS0]
    · iexists X0; iexact HS0
    iexists X1; iexact HS1
  iexact Hg

/-- The relational data of the run. -/
abbrev rdat (c : Dev nD) : RDat τ (Elt F) Unit ℕ (UR sig nD τ) ℕ (cfgs 0) c := (dats m 0 c).toRRel outs (rel m c)

set_option backward.isDefEq.respectTransparency.types false in
/-- THE RUN: from any memory with zero counters every execution ends; every array holds what the data allow, every other buffer what the
    region found there, and every counter is zero. -/
theorem run_main : θ_run defs (onTc (τ := τ) (main (F := F))) (s₀ m ρ)
    (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := dats_A m)
    (hin := inv_in m) (hout := fun c => inv_out m c _)

end Cert.KernelIdeal.Tower

end
-- ==== Proof.Rows.lean ====
/- What the kernel leaves for a block of rows is the reference's rows. -/
module

public import proofs.«01_k».proof.Proof.Host
public import proofs.«01_k».proof.Proof.Run

@[expose] public section

set_option maxRecDepth 16384

noncomputable section

namespace Cert.KernelIdeal.Tower

open Idealize.ShloMosaic Idealize.ShloMosaic.TcCoe Idealize.SL.Sem
open Cert.KernelIdeal Cert.KernelIdeal.Gen Cert.Rows
open Idealize.ShloMosaic.Pipeline (Dat RDat)

variable (m : (ℓ : Loc nD τ sig) → Buf (Elt Ideal) ℓ) (c : Dev nD)

/-- The reference's image vectors of the kernel's arguments. -/
def refIVec : FVec Ideal S16384x128 .f32 :=
  Cert.ReferenceIdeal.Tower.vec (Cert.ReferenceIdeal.Tower.logitsI (m ((c : Thread nD τ).loc main_arg0)) (m ((c : Thread nD τ).loc main_arg2)) (m ((c : Thread nD τ).loc main_arg3))) (Cert.ReferenceIdeal.Tower.expertsI (m ((c : Thread nD τ).loc main_arg0)) (m ((c : Thread nD τ).loc main_arg4)) (m ((c : Thread nD τ).loc main_arg5)))
/-- The reference's image class scores of the kernel's arguments. -/
def refICls : FVec Ideal S16384x10 .f32 := Cert.ReferenceIdeal.Tower.cls (refIVec m c) (m ((c : Thread nD τ).loc main_arg6)) (m ((c : Thread nD τ).loc main_arg7))

/-- A block's gate logits are the reference's. -/
theorem logitI (u : Fin cfg0.N) (hu : u.val < 16) (t : Fin cfg0.N) (r : Fin 1024) (e : Fin 4) :
    ((prodI m c u : FVec Ideal S1x1024x516 .f32) (ix3 0 r ⟨512 + e.val, by omega⟩) : EReal)
        + (iblk m c 3 t : FVec Ideal S1x4 .f32) (ix2 0 e)
      = Cert.ReferenceIdeal.Tower.logitsI (m ((c : Thread nD τ).loc main_arg0)) (m ((c : Thread nD τ).loc main_arg2)) (m ((c : Thread nD τ).loc main_arg3)) (ix2 ⟨u.val * 1024 + r.val, by omega⟩ e) :=
  (congrArg₂ (fun a b : EReal => a + b)
    ((prodI_at (iblk m c 0 u) (iblk m c 2 u) r _).trans (Finset.sum_congr rfl fun k _ =>
      congrArg₂ (fun a b : EReal => a * b) (blk0 m c u hu r k) ((congrFun (blk2 m c u) _).trans (hostI_gate m c k e))))
    ((congrFun (blk3 m c t) _).trans (hostI_gateBias m c e))).trans
    (Cert.ReferenceIdeal.Tower.logitsI_at _ _ _ _ _).symm

/-- A block's expert outputs are the reference's. -/
theorem expertI (u : Fin cfg0.N) (hu : u.val < 16) (t : Fin cfg0.N) (r : Fin 1024) (e : Fin 4) (o : Fin 128) :
    ((prodI m c u : FVec Ideal S1x1024x516 .f32) (ix3 0 r ⟨e.val * 128 + o.val, by omega⟩) : EReal)
        + (iblk m c 4 t : FVec Ideal S1x512 .f32) (ix2 0 ⟨e.val * 128 + o.val, by omega⟩)
      = Cert.ReferenceIdeal.Tower.expertsI (m ((c : Thread nD τ).loc main_arg0)) (m ((c : Thread nD τ).loc main_arg4)) (m ((c : Thread nD τ).loc main_arg5)) (ix3 ⟨u.val * 1024 + r.val, by omega⟩ e o) :=
  (congrArg₂ (fun a b : EReal => a + b)
    ((prodI_at (iblk m c 0 u) (iblk m c 2 u) r _).trans (Finset.sum_congr rfl fun k _ =>
      congrArg₂ (fun a b : EReal => a * b) (blk0 m c u hu r k) ((congrFun (blk2 m c u) _).trans (hostI_expert m c k e o))))
    ((congrFun (blk4 m c t) _).trans (hostI_expertBias m c e o))).trans
    (Cert.ReferenceIdeal.Tower.expertsI_at _ _ _ _ _ _).symm

/-- A block's image vectors are the reference's rows. -/
theorem imgVec_ref (u : Fin cfg0.N) (hu : u.val < 16) (t : Fin cfg0.N) (r : Fin 1024) (o : Fin 128) :
    (imgVec (F := Ideal) (prodI m c u) (iblk m c 3 t) (iblk m c 4 t) (iblk m c 5 t)) (ix2 r o)
      = refIVec m c (ix2 ⟨u.val * 1024 + r.val, by omega⟩ o) := by
  have hS : Spreads (iblk m c 5 t) := by
    have h5 := blk5 m c t
    exact h5 ▸ host_spreads m c
  refine (imgVec_at (prodI m c u) (iblk m c 3 t) (iblk m c 4 t) hS r o).trans
    (Eq.trans ?_ (Cert.ReferenceIdeal.Tower.vec_at _ _ _ _).symm)
  exact congrArg₂ mix (funext fun e => logitI m c u hu t r e) (funext fun e => expertI m c u hu t r e o)

/-- A block's image class scores are the reference's rows. -/
theorem imgCls_ref (u : Fin cfg0.N) (hu : u.val < 16) (t : Fin cfg0.N) (r : Fin 1024) (j : Fin 10) :
    (imgCls (F := Ideal) (prodI m c u) (iblk m c 3 t) (iblk m c 4 t) (iblk m c 5 t) (iblk m c 6 t) (iblk m c 7 t)) (ix2 r j)
      = refICls m c (ix2 ⟨u.val * 1024 + r.val, by omega⟩ j) := by
  refine (imgCls_at (prodI m c u) (iblk m c 3 t) (iblk m c 4 t) (iblk m c 5 t) (iblk m c 6 t) (iblk m c 7 t) r j).trans
    (Eq.trans ?_ (Cert.ReferenceIdeal.Tower.cls_at _ _ _ _ _).symm)
  exact congrArg₂ (fun a b : EReal => a + b)
    (Finset.sum_congr rfl fun k _ => congrArg₂ (fun a b : EReal => a * b) (imgVec_ref m c u hu t r k)
      ((congrFun (blk6 m c t) _).trans (congrFun (V_main_arg6 m c) _)))
    ((congrFun (blk7 m c t) _).trans (hostI_classBias m c j))

/-- The reference's text vectors of the kernel's arguments. -/
def refTVec : FVec Ideal S16384x128 .f32 :=
  Cert.ReferenceIdeal.Tower.vec (Cert.ReferenceIdeal.Tower.logitsT (m ((c : Thread nD τ).loc main_arg1)) (m ((c : Thread nD τ).loc main_arg8)) (m ((c : Thread nD τ).loc main_arg9))) (Cert.ReferenceIdeal.Tower.expertsT (m ((c : Thread nD τ).loc main_arg1)) (m ((c : Thread nD τ).loc main_arg10)) (m ((c : Thread nD τ).loc main_arg11)))
/-- The reference's text class scores of the kernel's arguments. -/
def refTCls : FVec Ideal S16384x10 .f32 := Cert.ReferenceIdeal.Tower.cls (refTVec m c) (m ((c : Thread nD τ).loc main_arg12)) (m ((c : Thread nD τ).loc main_arg13))

/-- A block's gate logits are the reference's. -/
theorem logitT (u : Fin cfg0.N) (hu : u.val < 16) (t : Fin cfg0.N) (r : Fin 1024) (e : Fin 4) :
    ((prodT m c u : FVec Ideal S1x1024x516 .f32) (ix3 0 r ⟨512 + e.val, by omega⟩) : EReal)
        + (iblk m c 9 t : FVec Ideal S1x4 .f32) (ix2 0 e)
      = Cert.ReferenceIdeal.Tower.logitsT (m ((c : Thread nD τ).loc main_arg1)) (m ((c : Thread nD τ).loc main_arg8)) (m ((c : Thread nD τ).loc main_arg9)) (ix2 ⟨u.val * 1024 + r.val, by omega⟩ e) :=
  (congrArg₂ (fun a b : EReal => a + b)
    ((prodT_at (iblk m c 1 u) (iblk m c 8 u) r _).trans (Finset.sum_congr rfl fun k _ =>
      congrArg₂ (fun a b : EReal => a * b) (blk1 m c u hu r k) ((congrFun (blk8 m c u) _).trans (hostT_gate m c k e))))
    ((congrFun (blk9 m c t) _).trans (hostT_gateBias m c e))).trans
    (Cert.ReferenceIdeal.Tower.logitsT_at _ _ _ _ _).symm

/-- A block's expert outputs are the reference's. -/
theorem expertT (u : Fin cfg0.N) (hu : u.val < 16) (t : Fin cfg0.N) (r : Fin 1024) (e : Fin 4) (o : Fin 128) :
    ((prodT m c u : FVec Ideal S1x1024x516 .f32) (ix3 0 r ⟨e.val * 128 + o.val, by omega⟩) : EReal)
        + (iblk m c 10 t : FVec Ideal S1x512 .f32) (ix2 0 ⟨e.val * 128 + o.val, by omega⟩)
      = Cert.ReferenceIdeal.Tower.expertsT (m ((c : Thread nD τ).loc main_arg1)) (m ((c : Thread nD τ).loc main_arg10)) (m ((c : Thread nD τ).loc main_arg11)) (ix3 ⟨u.val * 1024 + r.val, by omega⟩ e o) :=
  (congrArg₂ (fun a b : EReal => a + b)
    ((prodT_at (iblk m c 1 u) (iblk m c 8 u) r _).trans (Finset.sum_congr rfl fun k _ =>
      congrArg₂ (fun a b : EReal => a * b) (blk1 m c u hu r k) ((congrFun (blk8 m c u) _).trans (hostT_expert m c k e o))))
    ((congrFun (blk10 m c t) _).trans (hostT_expertBias m c e o))).trans
    (Cert.ReferenceIdeal.Tower.expertsT_at _ _ _ _ _ _).symm

/-- A block's text vectors are the reference's rows. -/
theorem txtVec_ref (u : Fin cfg0.N) (hu : u.val < 16) (t : Fin cfg0.N) (r : Fin 1024) (o : Fin 128) :
    (txtVec (F := Ideal) (prodT m c u) (iblk m c 9 t) (iblk m c 10 t) (iblk m c 5 t)) (ix2 r o)
      = refTVec m c (ix2 ⟨u.val * 1024 + r.val, by omega⟩ o) := by
  have hS : Spreads (iblk m c 5 t) := by
    have h5 := blk5 m c t
    exact h5 ▸ host_spreads m c
  refine (txtVec_at (prodT m c u) (iblk m c 9 t) (iblk m c 10 t) hS r o).trans
    (Eq.trans ?_ (Cert.ReferenceIdeal.Tower.vec_at _ _ _ _).symm)
  exact congrArg₂ mix (funext fun e => logitT m c u hu t r e) (funext fun e => expertT m c u hu t r e o)

/-- A block's text class scores are the reference's rows. -/
theorem txtCls_ref (u : Fin cfg0.N) (hu : u.val < 16) (t : Fin cfg0.N) (r : Fin 1024) (j : Fin 10) :
    (txtCls (F := Ideal) (prodT m c u) (iblk m c 9 t) (iblk m c 10 t) (iblk m c 5 t) (iblk m c 11 t) (iblk m c 12 t)) (ix2 r j)
      = refTCls m c (ix2 ⟨u.val * 1024 + r.val, by omega⟩ j) := by
  refine (txtCls_at (prodT m c u) (iblk m c 9 t) (iblk m c 10 t) (iblk m c 5 t) (iblk m c 11 t) (iblk m c 12 t) r j).trans
    (Eq.trans ?_ (Cert.ReferenceIdeal.Tower.cls_at _ _ _ _ _).symm)
  exact congrArg₂ (fun a b : EReal => a + b)
    (Finset.sum_congr rfl fun k _ => congrArg₂ (fun a b : EReal => a * b) (txtVec_ref m c u hu t r k)
      ((congrFun (blk11 m c t) _).trans (congrFun (V_main_arg12 m c) _)))
    ((congrFun (blk12 m c t) _).trans (hostT_classBias m c j))

end Cert.KernelIdeal.Tower

end
-- ==== Proof.Frame.lean ====
/- The kernel's frame: its arguments end unchanged and every semaphore counter is zero. -/
module

public import proofs.«01_k».proof.Proof.Run

@[expose] public section

set_option maxRecDepth 16384

noncomputable section

namespace Cert.KernelIdeal.Tower

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- What the run's post says of the arguments: each is what it was. -/
theorem args_of_post {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(Pipeline.RDat.FramePost.arr_in h c 0 rfl).trans ((dats_A m c 0).trans (V_main_arg0 m c)),
    (Pipeline.RDat.FramePost.arr_in h c 1 rfl).trans ((dats_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 6 rfl).trans ((dats_A m c 6).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    (Pipeline.RDat.FramePost.arr_in h c 11 rfl).trans ((dats_A m c 11).trans (V_main_arg12 m c)),
    ((h c).2 main_arg13 (Pipeline.mem_restRefs_of main_arg13 (by decide) (by decide))).trans (V_main_arg13 m c)⟩

/-- THE FRAME: every argument ends unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => args_of_post m h.1 c, h.2⟩) (run_main m ρ)

end Cert.KernelIdeal.Tower

end
-- ==== Proof.Arrays.lean ====
/- The whole result arrays: every block that the kernel writes back is the reference's rows, and the blocks cover the arrays. -/
module

public import proofs.«01_k».proof.Proof.Rows
public import proofs.«01_k».proof.Proof.Frame

@[expose] public section

set_option maxRecDepth 16384

noncomputable section

namespace Cert.KernelIdeal.Tower

open Idealize.ShloMosaic Idealize.ShloMosaic.TcCoe Idealize.SL.Sem
open Cert.KernelIdeal Cert.KernelIdeal.Gen Cert.Rows
open Idealize.ShloMosaic.Pipeline (Dat RDat)

variable (m : (ℓ : Loc nD τ sig) → Buf (Elt Ideal) ℓ) (c : Dev nD)

/-- Output window 13's written-back blocks cover its array. -/
theorem covers13 : (cfg0.win 13).Covers := by decide +kernel
/-- Output window 13 is written back at the points after the first only. -/
theorem flush13 : ∀ t : Fin cfg0.N, (cfg0.win 13).flush t = true → 1 ≤ t.val :=
  (by decide +kernel : ∀ t : Fin grid0.N, _)

/-- What is left in output window 13, at an index of the block: the reference's entry there. -/
theorem point13 (u : Fin cfg0.N) (hu : u.val < 16) (t : Fin cfg0.N) (y : Shape.Idx S1024x10) :
    (imgCls (F := Ideal) (prodI m c u) (iblk m c 3 t) (iblk m c 4 t) (iblk m c 5 t) (iblk m c 6 t) (iblk m c 7 t)) y
      = refICls m c (ix2 ⟨u.val * 1024 + (y 0).val, by have h : (y 0).val < 1024 := (y 0).isLt; omega⟩ (y 1)) :=
  (congrArg (imgCls (F := Ideal) (prodI m c u) (iblk m c 3 t) (iblk m c 4 t) (iblk m c 5 t) (iblk m c 6 t) (iblk m c 7 t)) (eq_ix2 y)).trans
    (imgCls_ref m c u hu t (y 0) (y 1))

/-- What output window 13's array holds at the end: the reference's. -/
theorem array13 {r : PUnit × MemSt nD τ sig (Elt Ideal)} (h : RDat.FramePost (cfgs 0) (rdat m) (V m) r) :
    r.2.mem ((c : Thread nD τ).loc main_v22_0) = refICls m c := by
  obtain ⟨after, hL, hA⟩ := h.exists_exact c
  refine (hA 13).trans ?_
  refine Dat.arrAt_eq_of_covers ((rdat m c).withAfter after) 13 (refICls m c) covers13 fun t hf y => ?_
  have h1 : 1 ≤ t.val := flush13 t hf
  have ht : t.val < 17 := t.isLt
  have hX : Leaves13 m c t (after 13 t) := Dat.toRRel_leaves (dats m 0 c) (fgt := outs) (Rl := rel m c) (w := 13) rfl (hL 13 t hf)
  have hx := hX ⟨t.val - 1, Nat.lt_of_le_of_lt (Nat.sub_le _ _) t.isLt⟩ (by show t.val - 1 + 1 = t.val; omega)
  have hi : win0_13.index t = ![t.val - 1, 0] := by
    have := (idx t).2.2.2.2.2.2.2.2.2.2.2.2.2.1
    rwa [show max t.val 1 = t.val by omega] at this
  blk_simp
  rw [RDat.withAfter_after, hx]
  refine (point13 m c ⟨t.val - 1, Nat.lt_of_le_of_lt (Nat.sub_le _ _) t.isLt⟩ (by show t.val - 1 < 16; omega) t y).trans ?_
  clear hx hX hL hA hf h
  generalize refICls m c = f
  blk_ext [hi]

/-- Output window 14's written-back blocks cover its array. -/
theorem covers14 : (cfg0.win 14).Covers := by decide +kernel
/-- Output window 14 is written back at the points after the first only. -/
theorem flush14 : ∀ t : Fin cfg0.N, (cfg0.win 14).flush t = true → 1 ≤ t.val :=
  (by decide +kernel : ∀ t : Fin grid0.N, _)

/-- What is left in output window 14, at an index of the block: the reference's entry there. -/
theorem point14 (u : Fin cfg0.N) (hu : u.val < 16) (t : Fin cfg0.N) (y : Shape.Idx S1024x10) :
    (txtCls (F := Ideal) (prodT m c u) (iblk m c 9 t) (iblk m c 10 t) (iblk m c 5 t) (iblk m c 11 t) (iblk m c 12 t)) y
      = refTCls m c (ix2 ⟨u.val * 1024 + (y 0).val, by have h : (y 0).val < 1024 := (y 0).isLt; omega⟩ (y 1)) :=
  (congrArg (txtCls (F := Ideal) (prodT m c u) (iblk m c 9 t) (iblk m c 10 t) (iblk m c 5 t) (iblk m c 11 t) (iblk m c 12 t)) (eq_ix2 y)).trans
    (txtCls_ref m c u hu t (y 0) (y 1))

/-- What output window 14's array holds at the end: the reference's. -/
theorem array14 {r : PUnit × MemSt nD τ sig (Elt Ideal)} (h : RDat.FramePost (cfgs 0) (rdat m) (V m) r) :
    r.2.mem ((c : Thread nD τ).loc main_v22_1) = refTCls m c := by
  obtain ⟨after, hL, hA⟩ := h.exists_exact c
  refine (hA 14).trans ?_
  refine Dat.arrAt_eq_of_covers ((rdat m c).withAfter after) 14 (refTCls m c) covers14 fun t hf y => ?_
  have h1 : 1 ≤ t.val := flush14 t hf
  have ht : t.val < 17 := t.isLt
  have hX : Leaves14 m c t (after 14 t) := Dat.toRRel_leaves (dats m 0 c) (fgt := outs) (Rl := rel m c) (w := 14) rfl (hL 14 t hf)
  have hx := hX ⟨t.val - 1, Nat.lt_of_le_of_lt (Nat.sub_le _ _) t.isLt⟩ (by show t.val - 1 + 1 = t.val; omega)
  have hi : win0_14.index t = ![t.val - 1, 0] := by
    have := (idx t).2.2.2.2.2.2.2.2.2.2.2.2.2.2.1
    rwa [show max t.val 1 = t.val by omega] at this
  blk_simp
  rw [RDat.withAfter_after, hx]
  refine (point14 m c ⟨t.val - 1, Nat.lt_of_le_of_lt (Nat.sub_le _ _) t.isLt⟩ (by show t.val - 1 < 16; omega) t y).trans ?_
  clear hx hX hL hA hf h
  generalize refTCls m c = f
  blk_ext [hi]

/-- Output window 15's written-back blocks cover its array. -/
theorem covers15 : (cfg0.win 15).Covers := by decide +kernel
/-- Output window 15 is written back at the points after the first only. -/
theorem flush15 : ∀ t : Fin cfg0.N, (cfg0.win 15).flush t = true → 1 ≤ t.val :=
  (by decide +kernel : ∀ t : Fin grid0.N, _)

/-- What is left in output window 15, at an index of the block: the reference's entry there. -/
theorem point15 (u : Fin cfg0.N) (hu : u.val < 16) (t : Fin cfg0.N) (y : Shape.Idx S1024x128) :
    (imgVec (F := Ideal) (prodI m c u) (iblk m c 3 t) (iblk m c 4 t) (iblk m c 5 t)) y
      = refIVec m c (ix2 ⟨u.val * 1024 + (y 0).val, by have h : (y 0).val < 1024 := (y 0).isLt; omega⟩ (y 1)) :=
  (congrArg (imgVec (F := Ideal) (prodI m c u) (iblk m c 3 t) (iblk m c 4 t) (iblk m c 5 t)) (eq_ix2 y)).trans
    (imgVec_ref m c u hu t (y 0) (y 1))

/-- What output window 15's array holds at the end: the reference's. -/
theorem array15 {r : PUnit × MemSt nD τ sig (Elt Ideal)} (h : RDat.FramePost (cfgs 0) (rdat m) (V m) r) :
    r.2.mem ((c : Thread nD τ).loc main_v22_2) = refIVec m c := by
  obtain ⟨after, hL, hA⟩ := h.exists_exact c
  refine (hA 15).trans ?_
  refine Dat.arrAt_eq_of_covers ((rdat m c).withAfter after) 15 (refIVec m c) covers15 fun t hf y => ?_
  have h1 : 1 ≤ t.val := flush15 t hf
  have ht : t.val < 17 := t.isLt
  have hX : Leaves15 m c t (after 15 t) := Dat.toRRel_leaves (dats m 0 c) (fgt := outs) (Rl := rel m c) (w := 15) rfl (hL 15 t hf)
  have hx := hX ⟨t.val - 1, Nat.lt_of_le_of_lt (Nat.sub_le _ _) t.isLt⟩ (by show t.val - 1 + 1 = t.val; omega)
  have hi : win0_15.index t = ![t.val - 1, 0] := by
    have := (idx t).2.2.2.2.2.2.2.2.2.2.2.2.2.2.2.1
    rwa [show max t.val 1 = t.val by omega] at this
  blk_simp
  rw [RDat.withAfter_after, hx]
  refine (point15 m c ⟨t.val - 1, Nat.lt_of_le_of_lt (Nat.sub_le _ _) t.isLt⟩ (by show t.val - 1 < 16; omega) t y).trans ?_
  clear hx hX hL hA hf h
  generalize refIVec m c = f
  blk_ext [hi]

/-- Output window 16's written-back blocks cover its array. -/
theorem covers16 : (cfg0.win 16).Covers := by decide +kernel
/-- Output window 16 is written back at the points after the first only. -/
theorem flush16 : ∀ t : Fin cfg0.N, (cfg0.win 16).flush t = true → 1 ≤ t.val :=
  (by decide +kernel : ∀ t : Fin grid0.N, _)

/-- What is left in output window 16, at an index of the block: the reference's entry there. -/
theorem point16 (u : Fin cfg0.N) (hu : u.val < 16) (t : Fin cfg0.N) (y : Shape.Idx S1024x128) :
    (txtVec (F := Ideal) (prodT m c u) (iblk m c 9 t) (iblk m c 10 t) (iblk m c 5 t)) y
      = refTVec m c (ix2 ⟨u.val * 1024 + (y 0).val, by have h : (y 0).val < 1024 := (y 0).isLt; omega⟩ (y 1)) :=
  (congrArg (txtVec (F := Ideal) (prodT m c u) (iblk m c 9 t) (iblk m c 10 t) (iblk m c 5 t)) (eq_ix2 y)).trans
    (txtVec_ref m c u hu t (y 0) (y 1))

/-- What output window 16's array holds at the end: the reference's. -/
theorem array16 {r : PUnit × MemSt nD τ sig (Elt Ideal)} (h : RDat.FramePost (cfgs 0) (rdat m) (V m) r) :
    r.2.mem ((c : Thread nD τ).loc main_v22_3) = refTVec m c := by
  obtain ⟨after, hL, hA⟩ := h.exists_exact c
  refine (hA 16).trans ?_
  refine Dat.arrAt_eq_of_covers ((rdat m c).withAfter after) 16 (refTVec m c) covers16 fun t hf y => ?_
  have h1 : 1 ≤ t.val := flush16 t hf
  have ht : t.val < 17 := t.isLt
  have hX : Leaves16 m c t (after 16 t) := Dat.toRRel_leaves (dats m 0 c) (fgt := outs) (Rl := rel m c) (w := 16) rfl (hL 16 t hf)
  have hx := hX ⟨t.val - 1, Nat.lt_of_le_of_lt (Nat.sub_le _ _) t.isLt⟩ (by show t.val - 1 + 1 = t.val; omega)
  have hi : win0_16.index t = ![t.val - 1, 0] := by
    have := (idx t).2.2.2.2.2.2.2.2.2.2.2.2.2.2.2.2
    rwa [show max t.val 1 = t.val by omega] at this
  blk_simp
  rw [RDat.withAfter_after, hx]
  refine (point16 m c ⟨t.val - 1, Nat.lt_of_le_of_lt (Nat.sub_le _ _) t.isLt⟩ (by show t.val - 1 < 16; omega) t y).trans ?_
  clear hx hX hL hA hf h
  generalize refTVec m c = f
  blk_ext [hi]

end Cert.KernelIdeal.Tower

end
-- ==== Proof.Same.lean ====
/- The kernel and its reading on the reals are one program text: what is shown of the one, for any float values, holds of the other. -/
module

public import proofs.«01_k».proof.Proof.Frame
public import proofs.«01_k».proof.Proof.Gen.Kernel

@[expose] public section

set_option maxRecDepth 65536

noncomputable section

namespace Cert.Kernel.Tower

open Idealize.ShloMosaic Idealize.SL.Sem
open Cert.Kernel Cert.Kernel.Gen

variable {F : FTy → Type} [FloatOps F]

set_option maxHeartbeats 2000000 in
/-- The two kernel bodies are the same function. -/
theorem body_same : @cc0__fused_body F _ Gen.facts = @Cert.KernelIdeal.cc0__fused_body F _ Cert.KernelIdeal.Gen.facts := rfl

set_option maxHeartbeats 2000000 in
/-- The two body tables are the same: each runs the body at the grid point and on the staging buffers of its label. -/
theorem table_same : @defs₀ F _ Gen.facts = @Cert.KernelIdeal.defs₀ F _ Cert.KernelIdeal.Gen.facts := by
  unfold defs₀ Cert.KernelIdeal.defs₀
  refine congrArg Defs.onTc ?_
  funext l x
  match l, x with
  | 0, (t, s) =>
    show cc0__fused_body _ _ _ _ _ _ _ _ _ _ _ _ _ _ _ _ _ _ _ _ _ _ _ _ _ _ _ _ _ _ _ _ _ _ _ _ _ _ _ = _
    rw [body_same]
    rfl

/-- The tables with the pipelines put in are the same. -/
theorem defs_same : @defs F _ Gen.facts = @Cert.KernelIdeal.defs F _ Cert.KernelIdeal.Gen.facts :=
  congrArg (Pipeline.defs Cert.KernelIdeal.pcfgs) table_same

set_option maxHeartbeats 4000000 in
/-- The two host programs are the same. -/
theorem main_same : @main F _ Gen.facts = @Cert.KernelIdeal.main F _ Cert.KernelIdeal.Gen.facts := rfl

/-- The kernel ends with its arguments unchanged and every semaphore counter at zero, for any float values. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  rw [defs_same, main_same]
  exact Cert.KernelIdeal.Tower.frame m ρ

end Cert.Kernel.Tower

end
-- ==== Proof.lean ====
/- Assembles the claim about the two-tower soft mixture of experts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference on the reals ends with its arguments unchanged and, having no semaphore, every counter at zero. -/
theorem reference_frame : Cert.quiescent_ReferenceIdeal := by
  intro m g _
  exact (θ_run _ _ _).mono (fun r h => ⟨fun c => (h c).2.2.2.2, sem_eq_zero_of_no_sems (by decide) r.2⟩)
    (Cert.ReferenceIdeal.Value.run (F := Ideal) m g)

set_option maxHeartbeats 1600000 in
/-- On the reals the kernel's four results are the reference's, whatever the arguments. -/
theorem values : Cert.algebraic_KernelIdeal_ReferenceIdeal := by
  intro m g m' g' _ hagree
  refine ⟨fun c => Cert.KernelIdeal.Tower.refICls m c, fun c => Cert.KernelIdeal.Tower.refTCls m c,
    fun c => Cert.KernelIdeal.Tower.refIVec m c, fun c => Cert.KernelIdeal.Tower.refTVec m c, ?_, ?_⟩
  · exact (θ_run _ _ _).mono (fun _ h c => ⟨Cert.KernelIdeal.Tower.array13 m c h.1,
      Cert.KernelIdeal.Tower.array14 m c h.1, Cert.KernelIdeal.Tower.array15 m c h.1,
      Cert.KernelIdeal.Tower.array16 m c h.1, Cert.KernelIdeal.Tower.args_of_post m h.1 c⟩)
      (Cert.KernelIdeal.Tower.run_main m g)
  · refine (θ_run _ _ _).mono (fun _ h c => ?_) (Cert.ReferenceIdeal.Value.run (F := Ideal) m' g')
    obtain ⟨h1, h2, h3, h4, ha⟩ := h c
    obtain ⟨a0, a1, a2, a3, a4, a5, a6, a7, a8, a9, a10, a11, a12, a13⟩ := hagree c
    rw [a0, a2, a3, a4, a5, a6, a7] at h1
    rw [a1, a8, a9, a10, a11, a12, a13] at h2
    rw [a0, a2, a3, a4, a5] at h3
    rw [a1, a8, a9, a10, a11] at h4
    exact ⟨h1, h2, h3, h4, ha⟩

/-- The kernel and its reading on the reals keep their arguments and end with every counter at zero, the reference
    does so too, and on the reals the kernel's results are the reference's. -/
theorem claim : Cert.Claim := ⟨Cert.Kernel.Gen.facts, Cert.KernelIdeal.Gen.facts, Cert.ReferenceIdeal.Gen.facts,
  fun m ρ _ => Cert.Kernel.Tower.frame m ρ, fun m ρ _ => Cert.KernelIdeal.Tower.frame m ρ, reference_frame,
  trivial, values⟩

end Cert.Proof

end
